-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S1024x50 : Shape := ⟨2, ![1024, 50]⟩
abbrev S1000x1000 : Shape := ⟨2, ![1000, 1000]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S1000x1000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 1000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S1000x1000 : Shape := ⟨2, ![1000, 1000]⟩
abbrev S50x1024 : Shape := ⟨2, ![50, 1024]⟩
abbrev S_ : Shape := ⟨0, ![]⟩
abbrev S56x1024 : Shape := ⟨2, ![56, 1024]⟩
abbrev S56x8x128 : Shape := ⟨3, ![56, 8, 128]⟩
abbrev S8x56x128 : Shape := ⟨3, ![8, 56, 128]⟩
abbrev S1000x1024 : Shape := ⟨2, ![1000, 1024]⟩
abbrev S1000x4x2x128 : Shape := ⟨4, ![1000, 4, 2, 128]⟩
abbrev S4x1000x2x128 : Shape := ⟨4, ![4, 1000, 2, 128]⟩
abbrev S4000x2x128 : Shape := ⟨3, ![4000, 2, 128]⟩
abbrev S50x8x4x2x128x128 : Shape := ⟨6, ![50, 8, 4, 2, 128, 128]⟩
abbrev S32x128 : Shape := ⟨2, ![32, 128]⟩
abbrev S128x2x128 : Shape := ⟨3, ![128, 2, 128]⟩
abbrev S128 : Shape := ⟨1, ![128]⟩
abbrev S1x32x128 : Shape := ⟨3, ![1, 32, 128]⟩
abbrev S16 : Shape := ⟨1, ![16]⟩
abbrev S1x16 : Shape := ⟨2, ![1, 16]⟩
abbrev S128x1x128 : Shape := ⟨3, ![128, 1, 128]⟩
abbrev S128x128 : Shape := ⟨2, ![128, 128]⟩
abbrev S1x1x1x1x128x128 : Shape := ⟨6, ![1, 1, 1, 1, 128, 128]⟩
abbrev S50x1000x1024 : Shape := ⟨3, ![50, 1000, 1024]⟩
abbrev S1x1x4x2x128x128 : Shape := ⟨6, ![1, 1, 4, 2, 128, 128]⟩
abbrev S1x1000x128 : Shape := ⟨3, ![1, 1000, 128]⟩
abbrev S4x2x128x128 : Shape := ⟨4, ![4, 2, 128, 128]⟩
abbrev S1024x128 : Shape := ⟨2, ![1024, 128]⟩
abbrev S1000x128 : Shape := ⟨2, ![1000, 128]⟩
abbrev S1024x50x1000 : Shape := ⟨3, ![1024, 50, 1000]⟩

abbrev nBuf : Table → Nat
  | .hbm => 17
  | .local .tc .vmem => 4
  | .local .scVector .vmem => 5
  | _ => 0

abbrev bufTy : (tb : Table) → Fin (nBuf tb) → BufTy
  | .hbm, ⟨0, _⟩ => ⟨S1024x50, .i32⟩
  | .hbm, ⟨1, _⟩ => ⟨S1000x1000, .f32⟩
  | .hbm, ⟨2, _⟩ => ⟨S50x1024, .i32⟩
  | .hbm, ⟨3, _⟩ => ⟨S_, .i32⟩
  | .hbm, ⟨4, _⟩ => ⟨S_, .i32⟩
  | .hbm, ⟨5, _⟩ => ⟨S56x1024, .i32⟩
  | .hbm, ⟨6, _⟩ => ⟨S56x8x128, .i32⟩
  | .hbm, ⟨7, _⟩ => ⟨S8x56x128, .i32⟩
  | .hbm, ⟨8, _⟩ => ⟨S_, .i32⟩
  | .hbm, ⟨9, _⟩ => ⟨S_, .f32⟩
  | .hbm, ⟨10, _⟩ => ⟨S1000x1024, .f32⟩
  | .hbm, ⟨11, _⟩ => ⟨S1000x4x2x128, .f32⟩
  | .hbm, ⟨12, _⟩ => ⟨S4x1000x2x128, .f32⟩
  | .hbm, ⟨13, _⟩ => ⟨S4000x2x128, .f32⟩
  | .hbm, ⟨14, _⟩ => ⟨S50x8x4x2x128x128, .f32⟩
  | .hbm, ⟨15, _⟩ => ⟨S50x1000x1024, .f32⟩
  | .hbm, ⟨16, _⟩ => ⟨S1024x50x1000, .f32⟩
  | .local .tc .vmem, ⟨0, _⟩ => ⟨S1x1x4x2x128x128, .f32⟩
  | .local .tc .vmem, ⟨1, _⟩ => ⟨S1x1x4x2x128x128, .f32⟩
  | .local .tc .vmem, ⟨2, _⟩ => ⟨S1x1000x128, .f32⟩
  | .local .tc .vmem, ⟨3, _⟩ => ⟨S1x1000x128, .f32⟩
  | .local .scVector .vmem, ⟨0, _⟩ => ⟨S32x128, .i32⟩
  | .local .scVector .vmem, ⟨1, _⟩ => ⟨S128x2x128, .f32⟩
  | .local .scVector .vmem, ⟨2, _⟩ => ⟨S128x2x128, .f32⟩
  | .local .scVector .vmem, ⟨3, _⟩ => ⟨S128, .i32⟩
  | .local .scVector .vmem, ⟨4, _⟩ => ⟨S128, .i32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v3_scv : Ref sig .scVector := ⟨.hbm, 7, rfl⟩
abbrev main_v7_scv : Ref sig .scVector := ⟨.hbm, 13, rfl⟩
abbrev main_v8_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let v6 : BitVec 32 := Scalar.muli c24_i32 v5
  v6
def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_0 : BitVec 32 := 1#32
  let v3 : BitVec 32 := Scalar.shrsi v1 c1_i32_0
  let c7_i32 : BitVec 32 := 7#32
  let v4 : BitVec 32 := Scalar.andi v3 c7_i32
  let c24_i32 : BitVec 32 := 24#32
  let c4_i32 : BitVec 32 := 4#32
  let v5 : BitVec 32 := Scalar.shrsi v1 c4_i32
  let v6 : BitVec 32 := Scalar.muli c24_i32 v5
  let v7 : BitVec 32 := v6
  let c0_i32_100_r0 : BitVec 32 := 0#32
  ![v4.toNat, v7.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v13 : Index := Scalar.indexCast v9
  let c0 : Index := 0#32
  ![v13.toNat, 0]
def k0_off3 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v18 : Index := Scalar.indexCast v9
  let c16 : Index := 16#32
  ![v18.toNat, 16]
def k0_off4 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v23 : Index := Scalar.indexCast v9
  let c32 : Index := 32#32
  ![v23.toNat, 32]
def k0_off5 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v28 : Index := Scalar.indexCast v9
  let c48 : Index := 48#32
  ![v28.toNat, 48]
def k0_off6 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v33 : Index := Scalar.indexCast v9
  let c64 : Index := 64#32
  ![v33.toNat, 64]
def k0_off7 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v38 : Index := Scalar.indexCast v9
  let c80 : Index := 80#32
  ![v38.toNat, 80]
def k0_off8 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v43 : Index := Scalar.indexCast v9
  let c96 : Index := 96#32
  ![v43.toNat, 96]
def k0_off9 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c2_i32_1 : BitVec 32 := 2#32
  let v8 : BitVec 32 := Scalar.divsi c0_i32 c2_i32_1
  let v9 : BitVec 32 := Scalar.addi v5 v8
  let v48 : Index := Scalar.indexCast v9
  let c112 : Index := 112#32
  ![v48.toNat, 112]
@[reducible] def k0_t1_loop : Scf.Loop 32 :=
  let c0_i32_39 : BitVec 32 := 0#32
  let c25_i32 : BitVec 32 := 25#32
  let v100 : BitVec 32 := Scalar.addi c0_i32_39 c25_i32
  let c1_i32_40 : BitVec 32 := 1#32
  ⟨c0_i32_39, v100, c1_i32_40⟩
def k0_off10 (i : grid0.Coords) (k0_t1 : Fin k0_t1_loop.trips) (c0_i32_102 : BitVec 32) (c0_i32_109 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_106 : BitVec 32 := 25#32
  let v157 : BitVec 32 := Scalar.muli v5 c25_i32_106
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let v155 : BitVec 32 := Scalar.addi v154 c0_i32_102
  let c2_i32_107 : BitVec 32 := 2#32
  let v158 : BitVec 32 := Scalar.divsi v155 c2_i32_107
  let v159 : BitVec 32 := Scalar.addi v157 v158
  let c1_i32_0 : BitVec 32 := 1#32
  let v3 : BitVec 32 := Scalar.shrsi v1 c1_i32_0
  let c7_i32 : BitVec 32 := 7#32
  let v4 : BitVec 32 := Scalar.andi v3 c7_i32
  let c2_i32_108 : BitVec 32 := 2#32
  let c1_i32 : BitVec 32 := 1#32
  let v2 : BitVec 32 := Scalar.andi v1 c1_i32
  let v160 : BitVec 32 := Scalar.muli c2_i32_108 v2
  let v161 : BitVec 32 := Scalar.addi v160 c0_i32_109
  let c0_i32_111 : BitVec 32 := 0#32
  let c0_i32_114 : BitVec 32 := 0#32
  let c0_i32_115 : BitVec 32 := 0#32
  ![v159.toNat, v4.toNat, v161.toNat, 0, 0, 0]
def k0_off10_at (r : Fin 2) : BitVec 32 × BitVec 32 :=
  if r.val < 1 then
    (0#32, 0#32)
  else
    (1#32, 1#32)
def k0_off11 (i : grid0.Coords) (k0_t1 : Fin k0_t1_loop.trips) (c0_i32_102 : BitVec 32) (c0_i32_123 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_120 : BitVec 32 := 25#32
  let v170 : BitVec 32 := Scalar.muli v5 c25_i32_120
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let v155 : BitVec 32 := Scalar.addi v154 c0_i32_102
  let c2_i32_121 : BitVec 32 := 2#32
  let v171 : BitVec 32 := Scalar.divsi v155 c2_i32_121
  let v172 : BitVec 32 := Scalar.addi v170 v171
  let c1_i32_0 : BitVec 32 := 1#32
  let v3 : BitVec 32 := Scalar.shrsi v1 c1_i32_0
  let c7_i32 : BitVec 32 := 7#32
  let v4 : BitVec 32 := Scalar.andi v3 c7_i32
  let c2_i32_122 : BitVec 32 := 2#32
  let c1_i32 : BitVec 32 := 1#32
  let v2 : BitVec 32 := Scalar.andi v1 c1_i32
  let v173 : BitVec 32 := Scalar.muli c2_i32_122 v2
  let v174 : BitVec 32 := Scalar.addi v173 c0_i32_123
  let c1_i32_125 : BitVec 32 := 1#32
  let c0_i32_128 : BitVec 32 := 0#32
  let c0_i32_129 : BitVec 32 := 0#32
  ![v172.toNat, v4.toNat, v174.toNat, 1, 0, 0]
def k0_off11_at (r : Fin 2) : BitVec 32 × BitVec 32 :=
  if r.val < 1 then
    (0#32, 0#32)
  else
    (1#32, 1#32)
def k0_cond1 (k0_t1 : Fin k0_t1_loop.trips) : BitVec 1 :=
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_134 : BitVec 32 := 2#32
  let v183 : BitVec 32 := Scalar.addi v155 c2_i32_134
  let c50_i32 : BitVec 32 := 50#32
  let v184 : BitVec 1 := Scalar.cmpi .slt v183 c50_i32
  let v185 : BitVec 32 := Scalar.extui v184
  let c0_i32_135 : BitVec 32 := 0#32
  let v186 : BitVec 1 := Scalar.cmpi .ne v185 c0_i32_135
  v186

def k0_off12 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_171 : BitVec 32 := 25#32
  let v219 : BitVec 32 := Scalar.muli v5 c25_i32_171
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_172 : BitVec 32 := 2#32
  let v220 : BitVec 32 := Scalar.divsi v155 c2_i32_172
  let v221 : BitVec 32 := Scalar.addi v219 v220
  let c1_i32_0 : BitVec 32 := 1#32
  let v3 : BitVec 32 := Scalar.shrsi v1 c1_i32_0
  let c7_i32 : BitVec 32 := 7#32
  let v4 : BitVec 32 := Scalar.andi v3 c7_i32
  let c2_i32_173 : BitVec 32 := 2#32
  let c1_i32 : BitVec 32 := 1#32
  let v2 : BitVec 32 := Scalar.andi v1 c1_i32
  let v222 : BitVec 32 := Scalar.muli c2_i32_173 v2
  let c0_i32_174 : BitVec 32 := 0#32
  let v223 : BitVec 32 := Scalar.addi v222 c0_i32_174
  let c0_i32_176 : BitVec 32 := 0#32
  let c0_i32_179 : BitVec 32 := 0#32
  let c0_i32_180 : BitVec 32 := 0#32
  ![v221.toNat, v4.toNat, v223.toNat, 0, 0, 0]
def k0_off13 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_185 : BitVec 32 := 25#32
  let v232 : BitVec 32 := Scalar.muli v5 c25_i32_185
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_186 : BitVec 32 := 2#32
  let v233 : BitVec 32 := Scalar.divsi v155 c2_i32_186
  let v234 : BitVec 32 := Scalar.addi v232 v233
  let c1_i32_0 : BitVec 32 := 1#32
  let v3 : BitVec 32 := Scalar.shrsi v1 c1_i32_0
  let c7_i32 : BitVec 32 := 7#32
  let v4 : BitVec 32 := Scalar.andi v3 c7_i32
  let c2_i32_187 : BitVec 32 := 2#32
  let c1_i32 : BitVec 32 := 1#32
  let v2 : BitVec 32 := Scalar.andi v1 c1_i32
  let v235 : BitVec 32 := Scalar.muli c2_i32_187 v2
  let c0_i32_188 : BitVec 32 := 0#32
  let v236 : BitVec 32 := Scalar.addi v235 c0_i32_188
  let c1_i32_190 : BitVec 32 := 1#32
  let c0_i32_193 : BitVec 32 := 0#32
  let c0_i32_194 : BitVec 32 := 0#32
  ![v234.toNat, v4.toNat, v236.toNat, 1, 0, 0]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v251 : Index := Scalar.indexCast v247
  let c0_204 : Index := 0#32
  ![v251.toNat, 0]
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v256 : Index := Scalar.indexCast v247
  let c16_206 : Index := 16#32
  ![v256.toNat, 16]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v261 : Index := Scalar.indexCast v247
  let c32_208 : Index := 32#32
  ![v261.toNat, 32]
def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v266 : Index := Scalar.indexCast v247
  let c48_210 : Index := 48#32
  ![v266.toNat, 48]
def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v271 : Index := Scalar.indexCast v247
  let c64_212 : Index := 64#32
  ![v271.toNat, 64]
def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v276 : Index := Scalar.indexCast v247
  let c80_214 : Index := 80#32
  ![v276.toNat, 80]
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v281 : Index := Scalar.indexCast v247
  let c96_216 : Index := 96#32
  ![v281.toNat, 96]
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c0_i32_102 : BitVec 32 := 0#32
  let v155 : BitVec 32 := Scalar.addi v154 c0_i32_102
  let c2_i32_199 : BitVec 32 := 2#32
  let v245 : BitVec 32 := Scalar.addi v155 c2_i32_199
  let c2_i32_200 : BitVec 32 := 2#32
  let v246 : BitVec 32 := Scalar.divsi v245 c2_i32_200
  let v247 : BitVec 32 := Scalar.addi v5 v246
  let v286 : Index := Scalar.indexCast v247
  let c112_218 : Index := 112#32
  ![v286.toNat, 112]
def k0_cond2 (k0_t1 : Fin k0_t1_loop.trips) : BitVec 1 :=
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_168 : BitVec 32 := 2#32
  let v215 : BitVec 32 := Scalar.addi v187 c2_i32_168
  let c50_i32_169 : BitVec 32 := 50#32
  let v216 : BitVec 1 := Scalar.cmpi .slt v215 c50_i32_169
  let v217 : BitVec 32 := Scalar.extui v216
  let c0_i32_170 : BitVec 32 := 0#32
  let v218 : BitVec 1 := Scalar.cmpi .ne v217 c0_i32_170
  v218

def k0_off22 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_171 : BitVec 32 := 25#32
  let v219 : BitVec 32 := Scalar.muli v5 c25_i32_171
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_172 : BitVec 32 := 2#32
  let v220 : BitVec 32 := Scalar.divsi v187 c2_i32_172
  let v221 : BitVec 32 := Scalar.addi v219 v220
  let c1_i32_0 : BitVec 32 := 1#32
  let v3 : BitVec 32 := Scalar.shrsi v1 c1_i32_0
  let c7_i32 : BitVec 32 := 7#32
  let v4 : BitVec 32 := Scalar.andi v3 c7_i32
  let c2_i32_173 : BitVec 32 := 2#32
  let c1_i32 : BitVec 32 := 1#32
  let v2 : BitVec 32 := Scalar.andi v1 c1_i32
  let v222 : BitVec 32 := Scalar.muli c2_i32_173 v2
  let c1_i32_174 : BitVec 32 := 1#32
  let v223 : BitVec 32 := Scalar.addi v222 c1_i32_174
  let c0_i32_176 : BitVec 32 := 0#32
  let c0_i32_179 : BitVec 32 := 0#32
  let c0_i32_180 : BitVec 32 := 0#32
  ![v221.toNat, v4.toNat, v223.toNat, 0, 0, 0]
def k0_off23 (i : grid0.Coords) (k0_t1 : Fin k0_t1_loop.trips) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_185 : BitVec 32 := 25#32
  let v232 : BitVec 32 := Scalar.muli v5 c25_i32_185
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_186 : BitVec 32 := 2#32
  let v233 : BitVec 32 := Scalar.divsi v187 c2_i32_186
  let v234 : BitVec 32 := Scalar.addi v232 v233
  let c1_i32_0 : BitVec 32 := 1#32
  let v3 : BitVec 32 := Scalar.shrsi v1 c1_i32_0
  let c7_i32 : BitVec 32 := 7#32
  let v4 : BitVec 32 := Scalar.andi v3 c7_i32
  let c2_i32_187 : BitVec 32 := 2#32
  let c1_i32 : BitVec 32 := 1#32
  let v2 : BitVec 32 := Scalar.andi v1 c1_i32
  let v235 : BitVec 32 := Scalar.muli c2_i32_187 v2
  let c1_i32_188 : BitVec 32 := 1#32
  let v236 : BitVec 32 := Scalar.addi v235 c1_i32_188
  let c1_i32_190 : BitVec 32 := 1#32
  let c0_i32_193 : BitVec 32 := 0#32
  let c0_i32_194 : BitVec 32 := 0#32
  ![v234.toNat, v4.toNat, v236.toNat, 1, 0, 0]
def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v251 : Index := Scalar.indexCast v247
  let c0_204 : Index := 0#32
  ![v251.toNat, 0]
def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v256 : Index := Scalar.indexCast v247
  let c16_206 : Index := 16#32
  ![v256.toNat, 16]
def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v261 : Index := Scalar.indexCast v247
  let c32_208 : Index := 32#32
  ![v261.toNat, 32]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v266 : Index := Scalar.indexCast v247
  let c48_210 : Index := 48#32
  ![v266.toNat, 48]
def k0_off28 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v271 : Index := Scalar.indexCast v247
  let c64_212 : Index := 64#32
  ![v271.toNat, 64]
def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v276 : Index := Scalar.indexCast v247
  let c80_214 : Index := 80#32
  ![v276.toNat, 80]
def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v281 : Index := Scalar.indexCast v247
  let c96_216 : Index := 96#32
  ![v281.toNat, 96]
def k0_off31 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c0_i32_101 : BitVec 32 := 0#32
  let c0_i32_39 : BitVec 32 := 0#32
  let c1_i32_40 : BitVec 32 := 1#32
  let arg14 : BitVec 32 := Scf.iv c0_i32_39 c1_i32_40 k0_t1
  let c2_i32_100 : BitVec 32 := 2#32
  let v153 : BitVec 32 := Scalar.muli arg14 c2_i32_100
  let v154 : BitVec 32 := Scalar.addi c0_i32_101 v153
  let c1_i32_136 : BitVec 32 := 1#32
  let v187 : BitVec 32 := Scalar.addi v154 c1_i32_136
  let c2_i32_199 : BitVec 32 := 2#32
  let v245 : BitVec 32 := Scalar.addi v187 c2_i32_199
  let c2_i32_200 : BitVec 32 := 2#32
  let v246 : BitVec 32 := Scalar.divsi v245 c2_i32_200
  let v247 : BitVec 32 := Scalar.addi v5 v246
  let v286 : Index := Scalar.indexCast v247
  let c112_218 : Index := 112#32
  ![v286.toNat, 112]
def k0_off32 (i : grid0.Coords) (c48_i32 : BitVec 32) (c0_i32_45 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_42 : BitVec 32 := 25#32
  let v101 : BitVec 32 := Scalar.muli v5 c25_i32_42
  let c2_i32_43 : BitVec 32 := 2#32
  let v102 : BitVec 32 := Scalar.divsi c48_i32 c2_i32_43
  let v103 : BitVec 32 := Scalar.addi v101 v102
  let c1_i32_0 : BitVec 32 := 1#32
  let v3 : BitVec 32 := Scalar.shrsi v1 c1_i32_0
  let c7_i32 : BitVec 32 := 7#32
  let v4 : BitVec 32 := Scalar.andi v3 c7_i32
  let c2_i32_44 : BitVec 32 := 2#32
  let c1_i32 : BitVec 32 := 1#32
  let v2 : BitVec 32 := Scalar.andi v1 c1_i32
  let v104 : BitVec 32 := Scalar.muli c2_i32_44 v2
  let v105 : BitVec 32 := Scalar.addi v104 c0_i32_45
  let c0_i32_47 : BitVec 32 := 0#32
  let c0_i32_50 : BitVec 32 := 0#32
  let c0_i32_51 : BitVec 32 := 0#32
  ![v103.toNat, v4.toNat, v105.toNat, 0, 0, 0]
def k0_off32_at (r : Fin 2) : BitVec 32 × BitVec 32 :=
  if r.val < 1 then
    (48#32, 0#32)
  else
    (49#32, 1#32)
def k0_off33 (i : grid0.Coords) (c48_i32_57 : BitVec 32) (c0_i32_60 : BitVec 32) : Fin 6 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v5 : BitVec 32 := Scalar.shrsi v1 c4_i32
  let c25_i32_56 : BitVec 32 := 25#32
  let v114 : BitVec 32 := Scalar.muli v5 c25_i32_56
  let c2_i32_58 : BitVec 32 := 2#32
  let v115 : BitVec 32 := Scalar.divsi c48_i32_57 c2_i32_58
  let v116 : BitVec 32 := Scalar.addi v114 v115
  let c1_i32_0 : BitVec 32 := 1#32
  let v3 : BitVec 32 := Scalar.shrsi v1 c1_i32_0
  let c7_i32 : BitVec 32 := 7#32
  let v4 : BitVec 32 := Scalar.andi v3 c7_i32
  let c2_i32_59 : BitVec 32 := 2#32
  let c1_i32 : BitVec 32 := 1#32
  let v2 : BitVec 32 := Scalar.andi v1 c1_i32
  let v117 : BitVec 32 := Scalar.muli c2_i32_59 v2
  let v118 : BitVec 32 := Scalar.addi v117 c0_i32_60
  let c1_i32_62 : BitVec 32 := 1#32
  let c0_i32_65 : BitVec 32 := 0#32
  let c0_i32_66 : BitVec 32 := 0#32
  ![v116.toNat, v4.toNat, v118.toNat, 1, 0, 0]
def k0_off33_at (r : Fin 2) : BitVec 32 × BitVec 32 :=
  if r.val < 1 then
    (48#32, 0#32)
  else
    (49#32, 1#32)
abbrev grid1 : Pipeline.Grid := ⟨2, ![50, 8], ![false, false]⟩

def cc1_transform_0 (i : grid1.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x4x2x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S1000x1000 : Shape := ⟨2, ![1000, 1000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x1000 : Shape := ⟨3, ![1024, 50, 1000]⟩

abbrev nBuf : Space → Nat
  | .hbm => 25
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1000x1000, .f32⟩
  | .hbm, ⟨2, _⟩ => ⟨S_, .i32⟩
  | .hbm, ⟨3, _⟩ => ⟨S1024x50, .i32⟩
  | .hbm, ⟨4, _⟩ => ⟨S1024x50, .i1⟩
  | .hbm, ⟨5, _⟩ => ⟨S_, .i32⟩
  | .hbm, ⟨6, _⟩ => ⟨S1024x50, .i32⟩
  | .hbm, ⟨7, _⟩ => ⟨S1024x50, .i32⟩
  | .hbm, ⟨8, _⟩ => ⟨S1024x50, .i32⟩
  | .hbm, ⟨9, _⟩ => ⟨S1024x50x1, .i32⟩
  | .hbm, ⟨10, _⟩ => ⟨S1, .i32⟩
  | .hbm, ⟨11, _⟩ => ⟨S_, .i32⟩
  | .hbm, ⟨12, _⟩ => ⟨S1024x50x1, .i32⟩
  | .hbm, ⟨13, _⟩ => ⟨S1024x50x1, .i1⟩
  | .hbm, ⟨14, _⟩ => ⟨S1x1x1, .i32⟩
  | .hbm, ⟨15, _⟩ => ⟨S1024x50x1, .i32⟩
  | .hbm, ⟨16, _⟩ => ⟨S1024x50x1, .i1⟩
  | .hbm, ⟨17, _⟩ => ⟨S1024x50x1, .i1⟩
  | .hbm, ⟨18, _⟩ => ⟨S_, .i1⟩
  | .hbm, ⟨19, _⟩ => ⟨S1024x50, .i1⟩
  | .hbm, ⟨20, _⟩ => ⟨S1024x50x1000, .f32⟩
  | .hbm, ⟨21, _⟩ => ⟨S1024x50x1000, .i1⟩
  | .hbm, ⟨22, _⟩ => ⟨S_, .f32⟩
  | .hbm, ⟨23, _⟩ => ⟨S1024x50x1000, .f32⟩
  | .hbm, ⟨24, _⟩ => ⟨S1024x50x1000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Offsets.lean ====
/- The gather kernel's computed offsets in closed form: each as a function of the core `i 0`, the subcore `i 1` and the
   trip of its loop, and the guards of the loop as a bound on the trip. -/
module

public import proofs.«01_k».proof.Proof.Gen.KernelIdeal.Launch
public import proofs.«01_k».proof.Proof.Gen.KernelIdeal.Skeleton

@[expose] public section

noncomputable section

namespace Cert.KernelIdeal.Gather

open Cert.KernelIdeal Cert.KernelIdeal.Gen
open Idealize.ShloMosaic

/-- The coordinates of the task on subcore `s` of core `c`. -/
def coords (c : Fin (grid0.bound 0)) (s : Fin (grid0.bound 1)) : grid0.Coords :=
  fun | 0 => c | 1 => s | ⟨_ + 2, h⟩ => absurd h (Nat.not_lt.2 (Nat.le_add_left _ _))

/-- The column tile a task serves: its subcore's number modulo eight. -/
def ctOf (i : grid0.Coords) : ℕ := (i 1).val % 8
/-- The half of the rows a task serves: its subcore's number over eight. -/
def tgOf (i : grid0.Coords) : ℕ := (i 1).val / 8
/-- The core of a task. -/
def cOf (i : grid0.Coords) : ℕ := (i 0).val

/-- There are eight column blocks. -/
theorem ctOf_lt (i : grid0.Coords) : ctOf i < 8 := Nat.mod_lt _ (by decide)
/-- There are two groups of rows. -/
theorem tgOf_lt (i : grid0.Coords) : tgOf i < 2 := by
  have h : (i 1).val < 16 := (i 1).isLt
  unfold tgOf; omega
/-- There are two SparseCores. -/
theorem cOf_lt (i : grid0.Coords) : cOf i < 2 := (i 0).isLt

/-- The loop makes 25 trips. -/
theorem trips_eq : k0_t1_loop.trips = 25 := by decide +kernel

/-- A tile of the first group copies in rows of indices from row 0 on, one of the second from row 24 on. -/
theorem off1_eq : ∀ i : grid0.Coords, k0_off1 i = ![ctOf i, 24 * tgOf i, 0] := by decide +kernel
/-- The first two lists' lanes from 0 are read off the group's first row. -/
theorem off2_eq : ∀ (i : grid0.Coords) (r : Fin 2), k0_off2 i (BitVec.ofNat 32 r.val) = ![tgOf i, 0] := by decide +kernel
/-- The first two lists' lanes from 16 are read off the group's first row. -/
theorem off3_eq : ∀ (i : grid0.Coords) (r : Fin 2), k0_off3 i (BitVec.ofNat 32 r.val) = ![tgOf i, 16] := by decide +kernel
/-- The first two lists' lanes from 32 are read off the group's first row. -/
theorem off4_eq : ∀ (i : grid0.Coords) (r : Fin 2), k0_off4 i (BitVec.ofNat 32 r.val) = ![tgOf i, 32] := by decide +kernel
/-- The first two lists' lanes from 48 are read off the group's first row. -/
theorem off5_eq : ∀ (i : grid0.Coords) (r : Fin 2), k0_off5 i (BitVec.ofNat 32 r.val) = ![tgOf i, 48] := by decide +kernel
/-- The first two lists' lanes from 64 are read off the group's first row. -/
theorem off6_eq : ∀ (i : grid0.Coords) (r : Fin 2), k0_off6 i (BitVec.ofNat 32 r.val) = ![tgOf i, 64] := by decide +kernel
/-- The first two lists' lanes from 80 are read off the group's first row. -/
theorem off7_eq : ∀ (i : grid0.Coords) (r : Fin 2), k0_off7 i (BitVec.ofNat 32 r.val) = ![tgOf i, 80] := by decide +kernel
/-- The first two lists' lanes from 96 are read off the group's first row. -/
theorem off8_eq : ∀ (i : grid0.Coords) (r : Fin 2), k0_off8 i (BitVec.ofNat 32 r.val) = ![tgOf i, 96] := by decide +kernel
/-- The first two lists' lanes from 112 are read off the group's first row. -/
theorem off9_eq : ∀ (i : grid0.Coords) (r : Fin 2), k0_off9 i (BitVec.ofNat 32 r.val) = ![tgOf i, 112] := by decide +kernel

/-- The two destinations of a trip with fourth coordinate zero: list `r`'s blocks. -/
theorem off10_eq : ∀ (i : grid0.Coords) (j : Fin k0_t1_loop.trips) (r : Fin 2),
    k0_off10 i j (k0_off10_at r).1 (k0_off10_at r).2 = ![25 * tgOf i + j.val, ctOf i, 2 * cOf i + r.val, 0, 0, 0] := by decide +kernel
/-- And with fourth coordinate one. -/
theorem off11_eq : ∀ (i : grid0.Coords) (j : Fin k0_t1_loop.trips) (r : Fin 2),
    k0_off11 i j (k0_off11_at r).1 (k0_off11_at r).2 = ![25 * tgOf i + j.val, ctOf i, 2 * cOf i + r.val, 1, 0, 0] := by decide +kernel

/-- In a trip, list 0's lanes from 0 are read off the next row. -/
theorem off14_eq : ∀ (i : grid0.Coords) (j : Fin k0_t1_loop.trips), k0_off14 i j = ![tgOf i + (j.val + 1), 0] := by decide +kernel
/-- In a trip, list 0's lanes from 16 are read off the next row. -/
theorem off15_eq : ∀ (i : grid0.Coords) (j : Fin k0_t1_loop.trips), k0_off15 i j = ![tgOf i + (j.val + 1), 16] := by decide +kernel
/-- In a trip, list 0's lanes from 32 are read off the next row. -/
theorem off16_eq : ∀ (i : grid0.Coords) (j : Fin k0_t1_loop.trips), k0_off16 i j = ![tgOf i + (j.val + 1), 32] := by decide +kernel
/-- In a trip, list 0's lanes from 48 are read off the next row. -/
theorem off17_eq : ∀ (i : grid0.Coords) (j : Fin k0_t1_loop.trips), k0_off17 i j = ![tgOf i + (j.val + 1), 48] := by decide +kernel
/-- In a trip, list 0's lanes from 64 are read off the next row. -/
theorem off18_eq : ∀ (i : grid0.Coords) (j : Fin k0_t1_loop.trips), k0_off18 i j = ![tgOf i + (j.val + 1), 64] := by decide +kernel
/-- In a trip, list 0's lanes from 80 are read off the next row. -/
theorem off19_eq : ∀ (i : grid0.Coords) (j : Fin k0_t1_loop.trips), k0_off19 i j = ![tgOf i + (j.val + 1), 80] := by decide +kernel
/-- In a trip, list 0's lanes from 96 are read off the next row. -/
theorem off20_eq : ∀ (i : grid0.Coords) (j : Fin k0_t1_loop.trips), k0_off20 i j = ![tgOf i + (j.val + 1), 96] := by decide +kernel
/-- In a trip, list 0's lanes from 112 are read off the next row. -/
theorem off21_eq : ∀ (i : grid0.Coords) (j : Fin k0_t1_loop.trips), k0_off21 i j = ![tgOf i + (j.val + 1), 112] := by decide +kernel
/-- So are list 1's lanes from 0. -/
theorem off24_eq : ∀ (i : grid0.Coords) (j : Fin k0_t1_loop.trips), k0_off24 i j = ![tgOf i + (j.val + 1), 0] := by decide +kernel
/-- So are list 1's lanes from 16. -/
theorem off25_eq : ∀ (i : grid0.Coords) (j : Fin k0_t1_loop.trips), k0_off25 i j = ![tgOf i + (j.val + 1), 16] := by decide +kernel
/-- So are list 1's lanes from 32. -/
theorem off26_eq : ∀ (i : grid0.Coords) (j : Fin k0_t1_loop.trips), k0_off26 i j = ![tgOf i + (j.val + 1), 32] := by decide +kernel
/-- So are list 1's lanes from 48. -/
theorem off27_eq : ∀ (i : grid0.Coords) (j : Fin k0_t1_loop.trips), k0_off27 i j = ![tgOf i + (j.val + 1), 48] := by decide +kernel
/-- So are list 1's lanes from 64. -/
theorem off28_eq : ∀ (i : grid0.Coords) (j : Fin k0_t1_loop.trips), k0_off28 i j = ![tgOf i + (j.val + 1), 64] := by decide +kernel
/-- So are list 1's lanes from 80. -/
theorem off29_eq : ∀ (i : grid0.Coords) (j : Fin k0_t1_loop.trips), k0_off29 i j = ![tgOf i + (j.val + 1), 80] := by decide +kernel
/-- So are list 1's lanes from 96. -/
theorem off30_eq : ∀ (i : grid0.Coords) (j : Fin k0_t1_loop.trips), k0_off30 i j = ![tgOf i + (j.val + 1), 96] := by decide +kernel
/-- So are list 1's lanes from 112. -/
theorem off31_eq : ∀ (i : grid0.Coords) (j : Fin k0_t1_loop.trips), k0_off31 i j = ![tgOf i + (j.val + 1), 112] := by decide +kernel

/-- The first list is refilled in every trip but the last. -/
theorem cond1_iff : ∀ j : Fin k0_t1_loop.trips, k0_cond1 j = 1#1 ↔ j.val < 24 := by decide +kernel
/-- And so is the second. -/
theorem cond2_iff : ∀ j : Fin k0_t1_loop.trips, k0_cond2 j = 1#1 ↔ j.val < 24 := by decide +kernel

/-- The word added to a row number to reach part `q` of the table: a thousand times `q`. -/
theorem word_eq : ∀ (i : grid0.Coords) (r : Fin 2),
    Scalar.muli (Scalar.addi (Scalar.muli (2#32) (Scalar.andi (Scalar.addi (Scalar.muli (BitVec.ofNat 32 (i 1).val) 2#32) (BitVec.ofNat 32 (i 0).val)) 1#32))
      (BitVec.ofNat 32 r.val)) 1000#32 = BitVec.ofNat 32 (1000 * (2 * cOf i + r.val)) := by decide +kernel

end Cert.KernelIdeal.Gather

end
-- ==== Proof.Model.lean ====
/- The gather kernel's launch as the launch theorem sees it, the resource algebra of its proof, and what the kernel
   computes: the table part each list of row numbers reaches, and the whole of the array it fills. -/
module

public import proofs.«01_k».proof.Proof.Offsets
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Batch
public import Idealize.ShloMosaic.Lib.Writes
public import Idealize.ShloMosaic.Lib.VecWindow
public import Idealize.ShloMosaic.Lib.Pipeline.ValueKit
public import Idealize.ShloMosaic.Lib.Tactic

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program without the SparseCore's calls. -/
abbrev ΛP : Labels := Pipeline.Sig Λ₀ (Fin 1) fun p => (pcfgs (F := F) p).Adm
/-- The SparseCore's calls. -/
abbrev K : SparseCore.Cfg τ sig (ΛP (F := F)) 1 := sc (F := F)
/-- The bodies without them. -/
abbrev D [FloatOps F] : Defs nD τ sig (Elt F) (ΛP (F := F)) := Pipeline.defs pcfgs defs₀
/-- No loop of the program needs a variant. -/
abbrev 𝒱₀ : Variants := Variants.none
/-- Nor at the wider labels. -/
abbrev 𝒱 : Variants := 𝒱₀.lift
/-- The variant at the launch. -/
abbrev v₀ : 𝒱.V := Sum.inl none

/-- The launch's semaphores are distinct and none is scoped, and what the sequencers own is shared with no task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- The handshakes' rounds. -/
abbrev UH : Type := URounds (GSem nD τ sig) ℕ
/-- The pipeline's rounds. -/
abbrev UP : Type := URounds (GSem nD τ sig) Unit
/-- The two, and the transfers' counters. -/
abbrev UU : Type := UH × (UP × Counters)

/-- Where the handshakes' rounds lie in the proof's algebra. -/
abbrev EH : Emb UH (MT nD τ sig (HIx 1) (Elt F) ℕ UU ℕ) := embL
/-- Where the pipeline's lie. -/
def EP : Emb UP (MT nD τ sig (HIx 1) (Elt F) ℕ UU ℕ) := (Emb.inl : Emb UP (UP × Counters)).trans embR
/-- They lie in its user part. -/
instance EP_landsIn : (EP (F := F)).LandsIn (upEmb : UEmb _ (MT nD τ sig (HIx 1) (Elt F) ℕ UU ℕ)) := by
  unfold EP embR; infer_instance

/-! ## Index tuples by their numbers -/

/-- The index of a shape with the given coordinates, each taken modulo the extent. -/
def pos (s : Shape) (f : Fin s.rank → ℕ) (hs : ∀ a, 0 < s.size a := by decide) : s.Idx := fun a => ⟨f a % s.size a, Nat.mod_lt _ (hs a)⟩

/-- Coordinates that are an index's own name that index. -/
theorem pos_eq {s : Shape} {f : Fin s.rank → ℕ} {hs : ∀ a, 0 < s.size a} {y : s.Idx} (h : ∀ a, f a = (y a).val) : pos s f hs = y :=
  funext fun a => Fin.ext (by show f a % _ = _; rw [h a]; exact Nat.mod_eq_of_lt (y a).isLt)

/-- The index depends on the coordinates alone. -/
theorem pos_congr {s : Shape} {f g : Fin s.rank → ℕ} {hs hs' : ∀ a, 0 < s.size a} (h : ∀ a, f a = g a) : pos s f hs = pos s g hs' :=
  funext fun a => Fin.ext (congrArg (· % s.size a) (h a))

/-! ## What the kernel computes -/

variable (X : S8x56x128.Idx → BitVec 32) (Tb : S4000x2x128.Idx → F .f32)

/-- What the index copy leaves in a task's index scratch: thirty-two rows of its column tile, from its first row on. -/
def idxV (i : grid0.Coords) : S32x128.Idx → BitVec 32 := fun y => X (pos _ ![ctOf i, 24 * tgOf i + (y 0).val, (y 1).val])

/-- List `r` of a task's trip `j`: the row numbers of row `j` of its half, moved to the list's part of the table. -/
def listV (i : grid0.Coords) (r : Fin 2) (j : ℕ) : S128.Idx → BitVec 32 :=
  fun x => X (pos _ ![ctOf i, 25 * tgOf i + j, (x 0).val]) + BitVec.ofNat 32 (1000 * (2 * cOf i + r.val))

/-- The array the kernel fills: at `(t, k, q, h, b, l)` the table's row named by index `(k, t, b)` in part `q`, half `h`, lane `l`. -/
def midV : S50x8x4x2x128x128.Idx → F .f32 := fun y =>
  Tb (pos _ ![(X (pos _ ![(y 1).val, (y 0).val, (y 4).val]) + BitVec.ofNat 32 (1000 * (y 2).val)).toNat, (y 3).val, (y 5).val])

/-- What a task's gather of list `r` in trip `j` brings. -/
def rowsV (i : grid0.Coords) (r : Fin 2) (j : ℕ) : S128x2x128.Idx → F .f32 := fun y =>
  Tb (pos _ ![(listV X i r j (pos _ ![(y 0).val])).toNat, (y 1).val, (y 2).val])

/-- The elements of the filled array that a task's trips `lo ≤ j < hi` write. -/
def part (i : grid0.Coords) (lo hi : ℕ) : Finset S50x8x4x2x128x128.Idx :=
  Finset.univ.filter fun y => 25 * tgOf i + lo ≤ (y 0).val ∧ (y 0).val < 25 * tgOf i + hi ∧ (y 1).val = ctOf i ∧ (y 2).val / 2 = cOf i

/-- The elements one copy of list `r`'s rows writes: half `h` of trip `j`. -/
def block (i : grid0.Coords) (r h : Fin 2) (j : ℕ) : Finset S50x8x4x2x128x128.Idx :=
  Finset.univ.filter fun y => (y 0).val = 25 * tgOf i + j ∧ (y 1).val = ctOf i ∧ (y 2).val = 2 * cOf i + r.val ∧ (y 3).val = h.val

/-- The row numbers that are looked up are below the table's thousand rows. -/
def InRange : Prop := ∀ k t b : ℕ, t < 50 → (X (pos _ ![k, t, b])).toNat < 1000

variable {X} in
/-- A list's row numbers lie in the table. -/
theorem listV_lt (hX : InRange X) (i : grid0.Coords) (r : Fin 2) {j : ℕ} (hj : j < 25) (x : S128.Idx) : (listV X i r j x).toNat < 4000 := by
  have h := hX (ctOf i) (25 * tgOf i + j) (x 0).val (by have := tgOf_lt i; omega)
  have hc := cOf_lt i
  have hr := r.isLt
  unfold listV
  have hb : 1000 * (2 * cOf i + r.val) < 3001 := by omega
  rw [BitVec.toNat_add, BitVec.toNat_ofNat, Nat.mod_eq_of_lt (lt_trans hb (by decide)), Nat.mod_eq_of_lt (by omega)]
  omega

/-- On a task's block the filled array holds the gathered rows. -/
theorem rowsV_eq_midV (i : grid0.Coords) (r h : Fin 2) (j : ℕ) {y : S50x8x4x2x128x128.Idx} (hy : y ∈ block i r h j) :
    rowsV X Tb i r j (pos _ ![(y 4).val, (y 3).val, (y 5).val]) = midV X Tb y := by
  obtain ⟨-, h0, h1, h2, h3⟩ := Finset.mem_filter.mp hy
  have e4 : (y 4).val % 128 = (y 4).val := Nat.mod_eq_of_lt (y 4).isLt
  have e5 : (y 5).val % 128 = (y 5).val := Nat.mod_eq_of_lt (y 5).isLt
  have e3 : (y 3).val % 2 = (y 3).val := Nat.mod_eq_of_lt (y 3).isLt
  have eX : listV X i r j (pos _ ![((pos S128x2x128 ![(y 4).val, (y 3).val, (y 5).val] : S128x2x128.Idx) 0).val])
      = X (pos _ ![(y 1).val, (y 0).val, (y 4).val]) + BitVec.ofNat 32 (1000 * (y 2).val) := by
    unfold listV
    rw [h0, h1, h2]
    refine congrArg (fun z => X z + _) (pos_congr fun a => ?_)
    match a with
    | 0 => rfl
    | 1 => rfl
    | 2 => exact (Nat.mod_eq_of_lt (Nat.mod_lt _ (by decide))).trans e4
  unfold rowsV midV
  rw [eX]
  refine congrArg Tb (pos_congr fun a => ?_)
  match a with
  | 0 => rfl
  | 1 => exact e3
  | 2 => exact e5

/-! ## The blocks of a trip -/

/-- What a tile has yet to write at trip `j` is that trip's four blocks and what it has yet to write after it. -/
theorem part_split (i : grid0.Coords) (j : ℕ) :
    part i j 25 = if j < 25 then (block i 0 0 j ∪ block i 0 1 j) ∪ ((block i 1 0 j ∪ block i 1 1 j) ∪ part i (j + 1) 25) else ∅ := by
  have hc := cOf_lt i
  ext y
  have h2 : (y 2).val < 4 := (y 2).isLt
  have h3 : (y 3).val < 2 := (y 3).isLt
  split
  · simp only [part, block, Finset.mem_filter, Finset.mem_univ, true_and, Finset.mem_union, Fin.val_zero, Fin.val_one]
    omega
  · simp only [part, Finset.mem_filter, Finset.mem_univ, true_and, Finset.notMem_empty, iff_false]
    omega

/-- What it has written after trip `j` is what it had written before, and those blocks. -/
theorem part_grow (i : grid0.Coords) (j : ℕ) :
    part i 0 (j + 1) = part i 0 j ∪ ((block i 0 0 j ∪ block i 0 1 j) ∪ (block i 1 0 j ∪ block i 1 1 j)) := by
  have hc := cOf_lt i
  ext y
  have h2 : (y 2).val < 4 := (y 2).isLt
  have h3 : (y 3).val < 2 := (y 3).isLt
  simp only [part, block, Finset.mem_filter, Finset.mem_univ, true_and, Finset.mem_union, Fin.val_zero, Fin.val_one]
  omega

/-- Before the first trip it has written nothing. -/
theorem part_empty (i : grid0.Coords) : part i 0 0 = ∅ := by
  ext y
  simp only [part, Finset.mem_filter, Finset.mem_univ, true_and, Finset.notMem_empty, iff_false]
  omega

/-- The four blocks of a trip are disjoint. -/
theorem block_disjoint (i : grid0.Coords) (j : ℕ) {r h r' h' : Fin 2} (hne : r.val ≠ r'.val ∨ h.val ≠ h'.val) : Disjoint (block i r h j) (block i r' h' j) := by
  rw [Finset.disjoint_left]
  intro y
  simp only [block, Finset.mem_filter, Finset.mem_univ, true_and]
  omega

/-- A trip's blocks are disjoint from what other trips write. -/
theorem block_part_disjoint (i : grid0.Coords) {j lo hi : ℕ} (hj : j < lo ∨ hi ≤ j) (r h : Fin 2) : Disjoint (block i r h j) (part i lo hi) := by
  rw [Finset.disjoint_left]
  intro y
  simp only [part, block, Finset.mem_filter, Finset.mem_univ, true_and]
  omega

end Cert.KernelIdeal.Gather

end
-- ==== Proof.Values.lean ====
/- The gather kernel's values, one operation at a time: what its index copy, its list stores, its gathers and its copies out
   leave, and which elements of the filled array and of a row buffer its copies touch. -/
module

public import proofs.«01_k».proof.Proof.Model

@[expose] public section

noncomputable section

namespace Cert.KernelIdeal.Gather

open Cert.KernelIdeal Cert.KernelIdeal.Gen
open Idealize.ShloMosaic

variable {F : FTy → Type}

local notation "idM" => (Memref.whole Cert.KernelIdeal.main_v3_scv : Memref Cert.KernelIdeal.sig Kind.scVector Space.hbm Cert.KernelIdeal.S8x56x128 EltTy.i32)
local notation "tbM" => (Memref.whole Cert.KernelIdeal.main_v7_scv : Memref Cert.KernelIdeal.sig Kind.scVector Space.hbm Cert.KernelIdeal.S4000x2x128 EltTy.f32)
local notation "midM" => (Memref.whole Cert.KernelIdeal.main_v8_scv : Memref Cert.KernelIdeal.sig Kind.scVector Space.hbm Cert.KernelIdeal.S50x8x4x2x128x128 EltTy.f32)
local notation "ixM" => (Memref.whole Cert.KernelIdeal.cc0_scratch0 : Memref Cert.KernelIdeal.sig Kind.scVector Space.vmem Cert.KernelIdeal.S32x128 EltTy.i32)

variable (X : S8x56x128.Idx → BitVec 32) (Tb : S4000x2x128.Idx → F .f32) (i : grid0.Coords)

/-! ## The index copy -/

/-- A slice of the index array squeezed: what a task's index copy carries. -/
theorem index_rows (o : Fin 3 → ℕ) (hb : ∀ a, o a + S1x32x128.size a ≤ S8x56x128.size a) (hs) (hq) (ho : o = ![ctOf i, 24 * tgOf i, 0]) :
    (((idM).slice (Rect.unit (s := S8x56x128) o S1x32x128.size hb) hs).squeeze S32x128 hq).view.read (Elt F) X = idxV X i := by
  subst ho
  have hc : S1x32x128.ShapeCasts S32x128 := by decide
  refine (Memref.read_squeeze_slice _ _ _ _ hc _).trans (funext fun y => ?_)
  rw [shapeCast_apply _ hc y (pos _ ![0, (y 0).val, (y 1).val]) (by
    rw [Shape.rowMajor_val_three, Shape.rowMajor_val_two]
    have h0 := (y 0).isLt
    have h1 := (y 1).isLt
    simp only [pos]
    show (0 % 1 * 32 + (y 0).val % 32) * 128 + (y 1).val % 128 = (y 0).val * 128 + (y 1).val
    rw [Nat.mod_eq_of_lt (show (y 0).val < 32 from h0), Nat.mod_eq_of_lt (show (y 1).val < 128 from h1)]; omega)]
  refine congrArg X (funext fun a => Fin.ext ?_)
  have h0 : (y 0).val < 32 := (y 0).isLt
  have h1 : (y 1).val < 128 := (y 1).isLt
  have ht := tgOf_lt i
  have hc := ctOf_lt i
  match a with
  | 0 => show ctOf i + 1 * (0 % 1) = ctOf i % 8; omega
  | 1 => show 24 * tgOf i + 1 * ((y 0).val % 32) = (24 * tgOf i + (y 0).val) % 56; omega
  | 2 => show 0 + 1 * ((y 1).val % 128) = (y 1).val % 128; omega

/-! ## The lists -/

/-- Sixteen lanes of a row of the index scratch, moved by a word: what each store into a list writes. -/
def lanes (g : S32x128.Idx → BitVec 32) (w : BitVec 32) (o : Fin 2 → ℕ) (hb : ∀ a, o a + S1x16.size a ≤ S32x128.size a) : S16.Idx → BitVec 32 :=
  addi (shapeCast S16 (fun x => g ((Rect.unit (s := S32x128) o S1x16.size hb).idx x)) shapeCasts_S1x16_S16) (broadcast S16 w)

/-- They are the list's sixteen numbers at the place of the store. -/
theorem lanes_apply (r : Fin 2) (j n : ℕ) (o : Fin 2 → ℕ) (hb) (hb' : ∀ a, (![16 * n] : Fin 1 → ℕ) a + S16.size a ≤ S128.size a)
    (ho : o = ![tgOf i + j, 16 * n]) (x : S16.Idx) :
    lanes (idxV X i) (BitVec.ofNat 32 (1000 * (2 * cOf i + r.val))) o hb x
      = listV X i r j ((Rect.unit (s := S128) ![16 * n] S16.size hb').emb x) := by
  subst ho
  have hx : (x 0).val < 16 := (x 0).isLt
  have hn : 16 * n + 16 ≤ 128 := hb' 0
  have hj : tgOf i + j + 1 ≤ 32 := hb 0
  have ht := tgOf_lt i
  show shapeCast S16 (fun x => idxV X i ((Rect.unit (s := S32x128) ![tgOf i + j, 16 * n] S1x16.size hb).idx x)) shapeCasts_S1x16_S16 x
    + BitVec.ofNat 32 (1000 * (2 * cOf i + r.val)) = _
  rw [shapeCast_dropUnit_apply (α := BitVec 32) ![16] _ shapeCasts_S1x16_S16 x]
  have e : (Rect.unit (s := S32x128) ![tgOf i + j, 16 * n] S1x16.size hb).idx (Fin.cons ⟨0, Nat.one_pos⟩ x)
      = pos S32x128 ![tgOf i + j, 16 * n + (x 0).val] := funext fun a => Fin.ext (by
    match a with
    | 0 => show tgOf i + j + 1 * 0 = (tgOf i + j) % 32; omega
    | 1 => show 16 * n + 1 * (x 0).val = (16 * n + (x 0).val) % 128; omega)
  rw [e]
  unfold idxV listV
  refine congrArg (fun z => X z + _) (pos_congr fun a => ?_)
  match a with
  | 0 => rfl
  | 1 => show 24 * tgOf i + (tgOf i + j) % 32 = 25 * tgOf i + j; omega
  | 2 => show (16 * n + (x 0).val) % 128 = 16 * n + 1 * (x 0).val; omega

/-- The eight stores of a list, in whatever buffer, leave the list's row numbers. -/
theorem fill_list {sp : Space} (v : View sig .scVector sp S128 .i32) (f : v.ty.Contents (Elt F)) (r : Fin 2) (j : ℕ) (g : S32x128.Idx → BitVec 32)
    (w : BitVec 32) (hg : g = idxV X i) (hw : w = BitVec.ofNat 32 (1000 * (2 * cOf i + r.val)))
    (o0 o1 o2 o3 o4 o5 o6 o7 : Fin 2 → ℕ) (b0 b1 b2 b3 b4 b5 b6 b7)
    (h0 : o0 = ![tgOf i + j, 0]) (h1 : o1 = ![tgOf i + j, 16]) (h2 : o2 = ![tgOf i + j, 32]) (h3 : o3 = ![tgOf i + j, 48])
    (h4 : o4 = ![tgOf i + j, 64]) (h5 : o5 = ![tgOf i + j, 80]) (h6 : o6 = ![tgOf i + j, 96]) (h7 : o7 = ![tgOf i + j, 112]) :
    v.read (Elt F) (v.writes (Elt F) f
      [⟨Rect.unit ![112] S16.size inb_S128_S16_112, lanes g w o7 b7⟩, ⟨Rect.unit ![96] S16.size inb_S128_S16_96, lanes g w o6 b6⟩,
       ⟨Rect.unit ![80] S16.size inb_S128_S16_80, lanes g w o5 b5⟩, ⟨Rect.unit ![64] S16.size inb_S128_S16_64, lanes g w o4 b4⟩,
       ⟨Rect.unit ![48] S16.size inb_S128_S16_48, lanes g w o3 b3⟩, ⟨Rect.unit ![32] S16.size inb_S128_S16_32, lanes g w o2 b2⟩,
       ⟨Rect.unit ![16] S16.size inb_S128_S16_16, lanes g w o1 b1⟩, ⟨Rect.unit ![0] S16.size inb_S128_S16_0, lanes g w o0 b0⟩])
      = listV X i r j := by
  subst hg hw
  funext y
  refine View.read_writes_apply_of_pieces v f (listV X i r j) _ ?_ y ?_
  · simp only [List.forall_mem_cons, List.not_mem_nil, false_implies, implies_true, and_true]
    exact ⟨lanes_apply X i r j 7 o7 b7 inb_S128_S16_112 h7, lanes_apply X i r j 6 o6 b6 inb_S128_S16_96 h6, lanes_apply X i r j 5 o5 b5 inb_S128_S16_80 h5,
      lanes_apply X i r j 4 o4 b4 inb_S128_S16_64 h4, lanes_apply X i r j 3 o3 b3 inb_S128_S16_48 h3, lanes_apply X i r j 2 o2 b2 inb_S128_S16_32 h2,
      lanes_apply X i r j 1 o1 b1 inb_S128_S16_16 h1, lanes_apply X i r j 0 o0 b0 inb_S128_S16_0 h0⟩
  · have hy : (y 0).val < 128 := (y 0).isLt
    have key : ∀ (m : ℕ) (hb : ∀ a, (![m] : Fin 1 → ℕ) a + S16.size a ≤ S128.size a), m ≤ (y 0).val → (y 0).val < m + 16 →
        y ∈ (Rect.unit (s := S128) ![m] S16.size hb).set := fun m hb hl hu =>
      Rect.mem_set_unit.mpr fun a => match a with | 0 => ⟨hl, hu⟩
    simp only [List.exists_mem_cons_iff, List.not_mem_nil, false_and, exists_false, or_false]
    rcases (by omega : 112 ≤ (y 0).val ∨ (96 ≤ (y 0).val ∧ (y 0).val < 112) ∨ (80 ≤ (y 0).val ∧ (y 0).val < 96) ∨ (64 ≤ (y 0).val ∧ (y 0).val < 80)
      ∨ (48 ≤ (y 0).val ∧ (y 0).val < 64) ∨ (32 ≤ (y 0).val ∧ (y 0).val < 48) ∨ (16 ≤ (y 0).val ∧ (y 0).val < 32) ∨ (y 0).val < 16) with h | h | h | h | h | h | h | h
    · exact Or.inl (key 112 _ h (by omega))
    · exact Or.inr (Or.inl (key 96 _ h.1 (by omega)))
    · exact Or.inr (Or.inr (Or.inl (key 80 _ h.1 (by omega))))
    · exact Or.inr (Or.inr (Or.inr (Or.inl (key 64 _ h.1 (by omega)))))
    · exact Or.inr (Or.inr (Or.inr (Or.inr (Or.inl (key 48 _ h.1 (by omega))))))
    · exact Or.inr (Or.inr (Or.inr (Or.inr (Or.inr (Or.inl (key 32 _ h.1 (by omega)))))))
    · exact Or.inr (Or.inr (Or.inr (Or.inr (Or.inr (Or.inr (Or.inl (key 16 _ h.1 (by omega))))))))
    · exact Or.inr (Or.inr (Or.inr (Or.inr (Or.inr (Or.inr (Or.inr (key 0 _ (by omega) (by omega))))))))

/-! ## The gathers -/

/-- The whole table as the gather's source names it. -/
theorem table_read (hb) (hs) : ((tbM).slice (Rect.unit (s := S4000x2x128) ![0, 0, 0] S4000x2x128.size hb) hs).view.read (Elt F) Tb = Tb :=
  funext fun x => congrArg Tb (funext fun a => Fin.ext (by
    show (![0, 0, 0] : Fin 3 → ℕ) a + 1 * (x a).val = (x a).val
    match a with
    | 0 => show 0 + 1 * _ = _; omega
    | 1 => show 0 + 1 * _ = _; omega
    | 2 => show 0 + 1 * _ = _; omega))

/-- A gather by list `r` of trip `j` brings that list's rows. -/
theorem gather_rows (hg : S4000x2x128.Gathers 0 S128x2x128) (r : Fin 2) (j : ℕ) (l : S128.Idx → Elt F .i32) (hl : l = listV X i r j) (hn) (hin) :
    SparseCore.gatherPayload (F := F) (e := .f32) hg Tb (SparseCore.rows (F := F) l hn hin) = rowsV X Tb i r j := by
  subst hl
  funext y
  have hk : ∀ k : Fin 128, S128.rowMajor.symm (k.cast hn.symm) = pos _ ![k.val] := fun k =>
    (Equiv.symm_apply_eq _).mpr (Fin.ext (by
      rw [Shape.rowMajor_val_one]; exact (Nat.mod_eq_of_lt k.isLt).symm))
  unfold SparseCore.gatherPayload rowsV
  refine congrArg Tb (funext fun a => Fin.ext ?_)
  match a with
  | 0 =>
    refine (congrArg Fin.val (hg.idx_axis _ _)).trans ?_
    have hlt := hin (S128.rowMajor.symm ((y 0).cast hn.symm))
    have e := hk (y 0)
    show (listV X i r j (S128.rowMajor.symm ((y 0).cast hn.symm))).toNat = _ % 4000
    rw [e] at hlt ⊢
    exact (Nat.mod_eq_of_lt hlt).symm
  | 1 => exact (hg.idx_of_ne _ _ 1 (by decide)).trans (Nat.mod_eq_of_lt (y 1).isLt).symm
  | 2 => exact (hg.idx_of_ne _ _ 2 (by decide)).trans (Nat.mod_eq_of_lt (y 2).isLt).symm

/-! ## The copies out -/

/-- Where the squeezed slice of the filled array puts an index. -/
theorem out_emb (r h : Fin 2) (j : ℕ) (o : Fin 6 → ℕ) (hb) (hs) (hq) (ho : o = ![25 * tgOf i + j, ctOf i, 2 * cOf i + r.val, h.val, 0, 0])
    (y : S50x8x4x2x128x128.Idx) (hy : y ∈ block i r h j) :
    (((midM).slice (Rect.unit (s := S50x8x4x2x128x128) o S1x1x1x1x128x128.size hb) hs).squeeze S128x128 hq).view.emb (pos _ ![(y 4).val, (y 5).val]) = y := by
  subst ho
  obtain ⟨-, h0, h1, h2, h3⟩ := Finset.mem_filter.mp hy
  have e4 : (y 4).val % 128 = (y 4).val := Nat.mod_eq_of_lt (y 4).isLt
  have e5 : (y 5).val % 128 = (y 5).val := Nat.mod_eq_of_lt (y 5).isLt
  have hr : Shape.reshapeEquiv hq.numel_eq (pos S128x128 ![(y 4).val, (y 5).val]) = pos S1x1x1x1x128x128 ![0, 0, 0, 0, (y 4).val, (y 5).val] :=
    Shape.reshapeEquiv_eq_of_rowMajor (s := S1x1x1x1x128x128) (s' := S128x128) _ (by
      rw [Shape.rowMajor_val_two]
      refine (Shape.rowMajor_val_succ _).trans ?_
      rw [Shape.rowMajor_val_five]
      show 0 % 1 * _ + ((((0 % 1 * 1 + 0 % 1) * 1 + 0 % 1) * 128 + (y 4).val % 128) * 128 + (y 5).val % 128) = (y 4).val % 128 * 128 + (y 5).val % 128
      omega)
  show (Rect.unit (s := S50x8x4x2x128x128) _ S1x1x1x1x128x128.size hb).emb (Shape.reshapeEquiv hq.numel_eq _) = y
  rw [hr]
  funext a
  refine Fin.ext ?_
  rw [Rect.emb_apply]
  match a with
  | 0 => show (25 * tgOf i + j) + 1 * (0 % 1) = _; omega
  | 1 => show ctOf i + 1 * (0 % 1) = _; omega
  | 2 => show (2 * cOf i + r.val) + 1 * (0 % 1) = _; omega
  | 3 => show h.val + 1 * (0 % 1) = _; omega
  | 4 => show 0 + 1 * ((y 4).val % 128) = _; omega
  | 5 => show 0 + 1 * ((y 5).val % 128) = _; omega

/-- The elements a copy out writes. -/
theorem out_set (r h : Fin 2) (j : ℕ) (o : Fin 6 → ℕ) (hb) (hs) (hq) (ho : o = ![25 * tgOf i + j, ctOf i, 2 * cOf i + r.val, h.val, 0, 0]) :
    (((midM).slice (Rect.unit (s := S50x8x4x2x128x128) o S1x1x1x1x128x128.size hb) hs).squeeze S128x128 hq).view.set = block i r h j := by
  subst ho
  refine (Memref.set_view_squeeze _ _).trans ?_
  refine (View.set_slice_whole _ _).trans ?_
  ext y
  rw [Rect.mem_set_unit]
  have h4 : (y 4).val < 128 := (y 4).isLt
  have h5 : (y 5).val < 128 := (y 5).isLt
  simp only [block, Finset.mem_filter, Finset.mem_univ, true_and]
  constructor
  · intro hy
    have a0 : _ ≤ (y 0).val ∧ (y 0).val < 25 * tgOf i + j + 1 := hy 0
    have a1 : _ ≤ (y 1).val ∧ (y 1).val < ctOf i + 1 := hy 1
    have a2 : _ ≤ (y 2).val ∧ (y 2).val < 2 * cOf i + r.val + 1 := hy 2
    have a3 : _ ≤ (y 3).val ∧ (y 3).val < h.val + 1 := hy 3
    have b0 : 25 * tgOf i + j ≤ (y 0).val := (hy 0).1
    have b1 : ctOf i ≤ (y 1).val := (hy 1).1
    have b2 : 2 * cOf i + r.val ≤ (y 2).val := (hy 2).1
    have b3 : h.val ≤ (y 3).val := (hy 3).1
    omega
  · rintro ⟨a0, a1, a2, a3⟩ a
    match a with
    | 0 => show 25 * tgOf i + j ≤ (y 0).val ∧ (y 0).val < 25 * tgOf i + j + 1; omega
    | 1 => show ctOf i ≤ (y 1).val ∧ (y 1).val < ctOf i + 1; omega
    | 2 => show 2 * cOf i + r.val ≤ (y 2).val ∧ (y 2).val < 2 * cOf i + r.val + 1; omega
    | 3 => show h.val ≤ (y 3).val ∧ (y 3).val < h.val + 1; omega
    | 4 => show 0 ≤ (y 4).val ∧ (y 4).val < 0 + 128; omega
    | 5 => show 0 ≤ (y 5).val ∧ (y 5).val < 0 + 128; omega

/-- The elements of a row buffer that a copy out of half `h` reads. -/
def half (h : ℕ) : Finset S128x2x128.Idx := Finset.univ.filter fun z => (z 1).val = h

/-- The two halves are all of it. -/
theorem half_union : half 0 ∪ half 1 = Finset.univ := by
  ext z
  have h1 : (z 1).val < 2 := (z 1).isLt
  simp only [half, Finset.mem_union, Finset.mem_filter, Finset.mem_univ, true_and, iff_true]
  omega

/-- They are disjoint. -/
theorem half_disjoint : Disjoint (half 0) (half 1) := by
  rw [Finset.disjoint_left]
  intro z
  simp only [half, Finset.mem_filter, Finset.mem_univ, true_and]
  omega

/-- The rectangle that a copy out names is its half. -/
theorem half_rect (h : ℕ) (o : Fin 3 → ℕ) (hb) (ho : o = ![0, h, 0]) : (Rect.unit (s := S128x2x128) o S128x1x128.size hb).set = half h := by
  subst ho
  ext z
  rw [Rect.mem_set_unit]
  have h0 : (z 0).val < 128 := (z 0).isLt
  have h2 : (z 2).val < 128 := (z 2).isLt
  simp only [half, Finset.mem_filter, Finset.mem_univ, true_and]
  constructor
  · intro hz
    have a1 : h ≤ (z 1).val ∧ (z 1).val < h + 1 := hz 1
    omega
  · intro e a
    match a with
    | 0 => show 0 ≤ (z 0).val ∧ (z 0).val < 0 + 128; omega
    | 1 => show h ≤ (z 1).val ∧ (z 1).val < h + 1; omega
    | 2 => show 0 ≤ (z 2).val ∧ (z 2).val < 0 + 128; omega

/-- What a copy out of half `h` of a row buffer holding `rw` carries. -/
theorem half_read {sp : Space} (R : Memref sig .scVector sp S128x2x128 .f32) (f : R.view.ty.Contents (Elt F)) (rv : S128x2x128.Idx → F .f32)
    (hf : R.view.read (Elt F) f = rv) (h : ℕ) (hh : h < 2) (o : Fin 3 → ℕ) (hb) (hs) (hq) (ho : o = ![0, h, 0]) (x : S128x128.Idx) :
    ((R.slice (Rect.unit (s := S128x2x128) o S128x1x128.size hb) hs).squeeze S128x128 hq).view.read (Elt F) f x = rv (pos _ ![(x 0).val, h, (x 1).val]) := by
  subst ho hf
  have hc : S128x1x128.ShapeCasts S128x128 := by decide
  refine (congrFun (Memref.read_squeeze_slice R _ hs hq hc f) x).trans ?_
  rw [shapeCast_apply _ hc x (pos _ ![(x 0).val, 0, (x 1).val]) (by
    rw [Shape.rowMajor_val_three, Shape.rowMajor_val_two]
    have h0 : (x 0).val < 128 := (x 0).isLt
    have h1 : (x 1).val < 128 := (x 1).isLt
    show ((x 0).val % 128 * 1 + 0 % 1) * 128 + (x 1).val % 128 = (x 0).val * 128 + (x 1).val
    omega)]
  have h0 : (x 0).val < 128 := (x 0).isLt
  have h1 : (x 1).val < 128 := (x 1).isLt
  rw [View.readAt_eq_ld]
  refine View.ld_unit_apply_of _ _ _ _ _ _ fun a => ?_
  match a with
  | 0 => show (x 0).val % 128 = 0 + (x 0).val % 128; omega
  | 1 => show h % 2 = h + 0 % 1; omega
  | 2 => show (x 1).val % 128 = 0 + (x 1).val % 128; omega

/-- On the elements it writes, a copy out of the gathered rows leaves the filled array's values. -/
theorem copy_out {sp : Space} (R : Memref sig .scVector sp S128x2x128 .f32) (f : R.view.ty.Contents (Elt F)) (f₀ : S50x8x4x2x128x128.Idx → F .f32) (r h : Fin 2) (j : ℕ)
    (hf : R.view.read (Elt F) f = rowsV X Tb i r j) (o : Fin 6 → ℕ) (hb) (hs) (hq) (ho : o = ![25 * tgOf i + j, ctOf i, 2 * cOf i + r.val, h.val, 0, 0])
    (o' : Fin 3 → ℕ) (hb') (hs') (hq') (ho' : o' = ![0, h.val, 0]) (y : S50x8x4x2x128x128.Idx) (hy : y ∈ block i r h j) :
    (((midM).slice (Rect.unit (s := S50x8x4x2x128x128) o S1x1x1x1x128x128.size hb) hs).squeeze S128x128 hq).view.write (Elt F) f₀
        (((R.slice (Rect.unit (s := S128x2x128) o' S128x1x128.size hb') hs').squeeze S128x128 hq').view.read (Elt F) f) Finset.univ y
      = midV X Tb y := by
  have e4 : (y 4).val % 128 = (y 4).val := Nat.mod_eq_of_lt (y 4).isLt
  have e5 : (y 5).val % 128 = (y 5).val := Nat.mod_eq_of_lt (y 5).isLt
  obtain ⟨-, h0, h1, h2, h3⟩ := Finset.mem_filter.mp hy
  rw [← rowsV_eq_midV X Tb i r h j hy]
  conv_lhs => rw [← out_emb i r h j o hb hs hq ho y hy]
  refine (View.write_emb_of_mem _ _ (Finset.mem_univ _)).trans ?_
  refine (cast_eq _ _).trans ((half_read R f _ hf h.val h.isLt o' hb' hs' hq' ho' _).trans ?_)
  refine congrArg _ (pos_congr fun a => ?_)
  match a with
  | 0 => exact e4
  | 1 => exact h3.symm
  | 2 => exact e5

end Cert.KernelIdeal.Gather

end
-- ==== Proof.Steps.lean ====
/- The gather kernel's transfers, one rule each: a gather of a list's rows, its wait, a copy of half a row buffer out, and
   the two waits that end a row buffer's copies. Each is stated over any row buffer, so that both of the kernel's share it. -/
module

public import proofs.«01_k».proof.Proof.Values

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch wp_dmaBatch wp_waitBatchO wp_waitBatchLastO)

variable {F : FTy → Type}

local notation "𝕄" => MT nD τ sig (HIx 1) (Elt F) ℕ UU ℕ

local notation "tbM" => (Memref.whole Cert.KernelIdeal.main_v7_scv : Memref Cert.KernelIdeal.sig Kind.scVector Space.hbm Cert.KernelIdeal.S4000x2x128 EltTy.f32)
local notation "midM" => (Memref.whole Cert.KernelIdeal.main_v8_scv : Memref Cert.KernelIdeal.sig Kind.scVector Space.hbm Cert.KernelIdeal.S50x8x4x2x128x128 EltTy.f32)

variable [FloatOps F] (d : Dev nD) (L : grid0.Coords)

/-- A tile's SparseCore. -/
abbrev cV (L : grid0.Coords) : Fin τ.nSC := (L 0).castLE hcore0
/-- Its number there. -/
abbrev jV (L : grid0.Coords) : Fin τ.nSub := (L 1).castLE hsub0
/-- Its thread. -/
abbrev thr : Thread nD τ := V d (cV L) (jV L)

variable (X : S8x56x128.Idx → BitVec 32) (Tb : S4000x2x128.Idx → F .f32)
variable (R : Memref sig .scVector .vmem S128x2x128 .f32) (l : Memref sig .scVector .vmem S128 .i32)

/-- The elements of a row buffer that lie in half `h`. -/
def hset (h : Fin 2) : Finset R.view.ty.Idx := (half h.val).map R.view.emb

/-- What the copy of half `h` of list `r`'s rows delivers at trip `j`: the filled array's block, and the half of the buffer back. -/
def Dlv (r : Fin 2) (j : ℕ) (h : Fin 2) : sProp 𝕄 :=
  iprop(((midM).view.loc (thr d L) ↦[block L r h j]{fullShare} (midV X Tb : S50x8x4x2x128x128.Idx → F .f32)) ∗ ∃ f, R.view.loc (thr d L) ↦[hset R h]{fullShare} f)

/-- What such a copy delivers may be handed over by a semaphore. -/
instance (r : Fin 2) (j : ℕ) (h : Fin 2) : Storable (upEmb : UEmb _ 𝕄) (Dlv d L X Tb R r j h) := by unfold Dlv; infer_instance

/-- What a gather of list `r` delivers at trip `j`: the rows in the row buffer, the table's share and the list back. -/
def Gd (q : PosShare TreeShare) (r : Fin 2) (j : ℕ) : sProp 𝕄 :=
  iprop((∃ g, ⌜R.view.read (Elt F) g = rowsV X Tb L r j⌝ ∗ R.view.loc (thr d L) ↦{fullShare} g) ∗ ((tbM).view.loc (thr d L) ↦{q} (Tb : S4000x2x128.Idx → F .f32))
    ∗ ∃ f, l.view.loc (thr d L) ↦{fullShare} f)

/-- What the task owes, its waits recorded beyond `W` all at no call. -/
def Ow (O : CellTallies nD τ sig (HIx 1)) (W : Waits sig (HIx 1)) : sProp 𝕄 := iprop(∃ W', ⌜∀ p ∈ W', p ∈ W ∨ p.2 = none⌝ ∗ owes (thr d L) O W')

/-- The credit of one copy out. -/
abbrev DN : ℕ := ((((midM).slice (Rect.unit (s := S50x8x4x2x128x128) ![0, 0, 0, 0, 0, 0] S1x1x1x1x128x128.size (by decide)) (fun _ => rfl)).squeeze S128x128
  squeezes_S1x1x1x1x128x128_S128x128).view).dmaCredit

/-- The writes in flight on a semaphore: list `r`'s two copies of trip `j`, `k` issued and `u` units consumed. -/
abbrev Bt (sem : DmaSem sig) (r : Fin 2) (j k u : ℕ) : sProp 𝕄 := Batch countersEmb (thr d L) (.dma sem) (none : HIx 1) DN (Dlv d L X Tb R r j) k u

/-- A gather in flight on a semaphore. -/
abbrev Gf (sem : DmaSem sig) (q : PosShare TreeShare) (r : Fin 2) (j : ℕ) : sProp 𝕄 :=
  Transfers.Flight countersEmb (thr d L) (.dma sem) (none : HIx 1) R.view.dmaCredit (Gd d L X Tb R l q r j)

/-! ## Row buffers by halves -/

/-- The two halves are the buffer. -/
theorem hset_union (hR : R.view.set = Finset.univ) : hset R 0 ∪ hset R 1 = Finset.univ := by
  unfold hset
  rw [← Finset.map_union]
  exact (congrArg (Finset.map R.view.emb) half_union).trans hR

/-- They are disjoint. -/
theorem hset_disjoint : Disjoint (hset R 0) (hset R 1) := (Finset.disjoint_map _).mpr half_disjoint

/-- The slice that a copy out reads is its half. -/
theorem hset_slice (h : Fin 2) (o : Fin 3 → ℕ) (hb) (hs) (hq) (ho : o = ![0, h.val, 0]) :
    ((R.slice (Rect.unit (s := S128x2x128) o S128x1x128.size hb) hs).squeeze S128x128 hq).view.set = hset R h := by
  refine (Memref.set_view_squeeze _ _).trans ((View.set_slice _ _).trans ?_)
  exact congrArg (Finset.map R.view.emb) (half_rect h.val o hb ho)

/-- Holding the buffer is holding its halves. -/
theorem rows_split (hR : R.view.set = Finset.univ) (g : Buf (Elt F) (R.view.loc (thr d L))) :
    (R.view.loc (thr d L) ↦{fullShare} g : sProp 𝕄) ⊢ iprop((R.view.loc (thr d L) ↦[hset R 0]{fullShare} g) ∗ R.view.loc (thr d L) ↦[hset R 1]{fullShare} g) := by
  refine BIBase.Entails.trans (Entails.of_eq ?_) (pointsTo_union (hset_disjoint R)).1
  rw [hset_union R hR]

/-- What the two copies of a trip deliver, together: both blocks filled, and the buffer whole again. -/
theorem out_done (hR : R.view.set = Finset.univ) (r : Fin 2) (j : ℕ) :
    bigSep Finset.univ (Dlv d L X Tb R r j) ⊢ iprop(((midM).view.loc (thr d L) ↦[block L r 0 j ∪ block L r 1 j]{fullShare} (midV X Tb : S50x8x4x2x128x128.Idx → F .f32))
      ∗ ∃ f, R.view.loc (thr d L) ↦{fullShare} f) := by
  refine BIBase.Entails.trans (Entails.of_eq (show _ = iprop(Dlv d L X Tb R r j 0 ∗ Dlv d L X Tb R r j 1) by
    rw [show (Finset.univ : Finset (Fin 2)) = {0, 1} from rfl, bigSep_insert (by decide), bigSep_singleton]; rfl)) ?_
  unfold Dlv
  iintro ⟨⟨Ha, ⟨%f, Hf⟩⟩, ⟨Hb, ⟨%g, Hg⟩⟩⟩
  isplitl [Ha Hb]
  · iapply (pointsTo_union (block_disjoint L j (r := r) (r' := r) (h := 0) (h' := 1) (Or.inr (by decide)))).2
    isplitl [Ha]; · iexact Ha
    iexact Hb
  · iexists (hset R 1).piecewise g f
    rw [← hset_union R hR]
    iapply (pointsTo_join (hset_disjoint R))
    isplitl [Hf]; · iexact Hf
    iexact Hg

/-! ## The rules -/

/-- A gather of list `r`, the list filled for trip `j`: issued, with the table's share and the list's buffer in it. -/
theorem gather_step {α : Type} {Q : α → sProp 𝕄} {kk : PUnit.{1} → Prog (TpuEff nD τ sig (Elt F) Λ₀ (.scVector (cV L) (jV L))) α}
    (hX : InRange X) (q : PosShare TreeShare) (r : Fin 2) {j : ℕ} (hj : j < 25) (sem : DmaSem sig)
    (hN : ∑ k, (R.slice (S128x2x128.rowRect gathers_S4000x2x128_S128x2x128.axis' k) (S128x2x128.stride_rowRect gathers_S4000x2x128_S128x2x128.axis' k)).view.dmaCredit
      = R.view.dmaCredit)
    (hb) (hs) (hn) (hp : Kind.scVector = .scVector) (hw : ((tbM).slice (Rect.unit (s := S4000x2x128) ![0, 0, 0] S4000x2x128.size hb) hs).view.WordExact)
    (he : EltTy.f32.bits = 32) (hsp : Space.hbm = .hbm ∨ Space.hbm = .shared) (hr : S4000x2x128.StreamRows 0)
    (fd : Buf (Elt F) (R.view.loc (thr d L))) (fo : Buf (Elt F) (l.view.loc (thr d L))) (hl : l.view.read (Elt F) fo = listV X L r j) :
    (iprop(((tbM).view.loc (thr d L) ↦{q} (Tb : S4000x2x128.Idx → F .f32)) ∗ (R.view.loc (thr d L) ↦{fullShare} fd) ∗ (l.view.loc (thr d L) ↦{fullShare} fo)
        ∗ semVal (thr d L, .dma sem) 0) : sProp 𝕄)
      ⊢ iprop((Gf d L X Tb R l sem q r j -∗ wp frame (wpE (defs₀ (F := F)) 𝒱₀ (thr d L) none) Set.univ (kk ⟨⟩) Q)
          -∗ wp frame (wpE (defs₀ (F := F)) 𝒱₀ (thr d L) none) Set.univ
            (SparseCore.enqueueIndirectGather (p := .scVector (cV L) (jV L)) hp ((tbM).slice (Rect.unit (s := S4000x2x128) ![0, 0, 0] S4000x2x128.size hb) hs) R
              gathers_S4000x2x128_S128x2x128 l hn sem hw he hsp hr >>= kk) Q) := by
  iintro ⟨Ht, Hr, Hl, Hs⟩ Hk
  have hin : ∀ x, (l.view.read (Elt F) fo x).toNat < S4000x2x128.size gathers_S4000x2x128_S128x2x128.axis := fun x => by
    rw [hl]; exact listV_lt hX L r hj x
  iapply (SparseCore.wp_gatherFromWhole countersEmb 𝒱₀ (thr d L) none (hg := gathers_S4000x2x128_S128x2x128) (none : HIx 1) R.view.dmaCredit hN (by decide) hin) $$ [Ht Hr Hl Hs]
  · isplitl [Ht]; · iexact Ht
    isplitl [Hr]; · iexact Hr
    isplitl [Hl]; · iexact Hl
    iexact Hs
  iintro Hf
  iapply Hk
  iapply (Transfers.Flight_mono countersEmb (thr d L) (D' := Gd d L X Tb R l q r j) ?_) $$ Hf
  unfold Gd
  iintro ⟨Hr, Ht, Hl⟩
  isplitl [Hr]
  · iexists _
    isplitr
    rotate_left
    · iexact Hr
    · ipureintro
      rw [View.read_write_univ, table_read]
      exact gather_rows X Tb L _ r j _ hl _ _
  isplitl [Ht]; · iexact Ht
  iexists _
  iexact Hl

/-- The wait for a gather. -/
theorem gather_wait {α : Type} {Q : α → sProp 𝕄} {kk : PUnit.{1} → Prog (TpuEff nD τ sig (Elt F) Λ₀ (.scVector (cV L) (jV L))) α}
    (q : PosShare TreeShare) (r : Fin 2) (j : ℕ) (sem : DmaSem sig) {sp' : Space} {s' : Shape} {e' : EltTy} {src : Memref sig .scVector sp' s' e'} {hsrc : src.view.WordExact}
    {hdst : R.view.WordExact} (O : CellTallies nD τ sig (HIx 1)) (W : Waits sig (HIx 1)) :
    (iprop(Gf d L X Tb R l sem q r j ∗ Ow d L O W ∗ Transfers.MayWaits (thr d L) (none : HIx 1) O) : sProp 𝕄)
      ⊢ iprop((iprop(Gd d L X Tb R l q r j ∗ semVal (thr d L, .dma sem) 0 ∗ Ow d L O W) -∗ wp frame (wpE (defs₀ (F := F)) 𝒱₀ (thr d L) none) Set.univ (kk ⟨⟩) Q)
          -∗ wp frame (wpE (defs₀ (F := F)) 𝒱₀ (thr d L) none) Set.univ (.op (.waitDma2 sem src R hsrc hdst) kk) Q) := by
  unfold Ow
  iintro ⟨Hf, ⟨%W', %hW', HO⟩, #Hmw⟩ Hk
  iapply (Transfers.wp_waitLocalO countersEmb 𝒱₀ (thr d L) none (srcw := src) (dstw := R) (hsrc := hsrc) (hdst := hdst) (k := kk) (none : HIx 1) (rfl : R.view.dmaCredit = _)) $$ [Hf HO]
  · isplitl [Hf]; · iexact Hf
    isplitl [HO]; · iexact HO
    iapply (Transfers.MayWaits.elim (SemLoc.dma sem)) $$ Hmw
  iintro ⟨HD, Hs, HO⟩
  iapply Hk
  isplitl [HD]; · iexact HD
  isplitl [Hs]; · iexact Hs
  iexists _
  isplitr
  rotate_left
  · iexact HO
  · ipureintro
    intro p hp
    rcases Finset.mem_insert.mp hp with rfl | hp
    · exact Or.inr rfl
    · exact hW' p hp

/-- A copy of half `h` of list `r`'s rows out, at trip `j`. -/
theorem copy_step {α : Type} {Q : α → sProp 𝕄} {kk : PUnit.{1} → Prog (TpuEff nD τ sig (Elt F) Λ₀ (.scVector (cV L) (jV L))) α}
    (r h : Fin 2) (j : ℕ) (sem : DmaSem sig) (g : Buf (Elt F) (R.view.loc (thr d L))) (hg : R.view.read (Elt F) g = rowsV X Tb L r j)
    (f₀ : S50x8x4x2x128x128.Idx → F .f32)
    (o : Fin 6 → ℕ) (hb) (hs) (hq) (ho : o = ![25 * tgOf L + j, ctOf L, 2 * cOf L + r.val, h.val, 0, 0])
    (o' : Fin 3 → ℕ) (hb') (hs') (hq') (ho' : o' = ![0, h.val, 0])
    (hw : ((R.slice (Rect.unit (s := S128x2x128) o' S128x1x128.size hb') hs').squeeze S128x128 hq').view.WordExact)
    (hw' : (((midM).slice (Rect.unit (s := S50x8x4x2x128x128) o S1x1x1x1x128x128.size hb) hs).squeeze S128x128 hq).view.WordExact) (ht) :
    (iprop((R.view.loc (thr d L) ↦[hset R h]{fullShare} g) ∗ ((midM).view.loc (thr d L) ↦[block L r h j]{fullShare} f₀) ∗ Bt d L X Tb R sem r j h.val 0) : sProp 𝕄)
      ⊢ iprop((Bt d L X Tb R sem r j (h.val + 1) 0 -∗ wp frame (wpE (defs₀ (F := F)) 𝒱₀ (thr d L) none) Set.univ (kk ⟨⟩) Q)
          -∗ wp frame (wpE (defs₀ (F := F)) 𝒱₀ (thr d L) none) Set.univ
            (.op (.enqueueDma ((R.slice (Rect.unit (s := S128x2x128) o' S128x1x128.size hb') hs').squeeze S128x128 hq')
              (.here (((midM).slice (Rect.unit (s := S50x8x4x2x128x128) o S1x1x1x1x128x128.size hb) hs).squeeze S128x128 hq)) (.dma sem) hw hw' ht) kk) Q) := by
  have hset' := hset_slice R h o' hb' hs' hq' ho'
  have oset' := out_set L r h j o hb hs hq ho
  iintro ⟨Hr, Hm, HB⟩ Hk
  iapply (wp_dmaBatch countersEmb 𝒱₀ (thr d L) none (src := ((R.slice (Rect.unit (s := S128x2x128) o' S128x1x128.size hb') hs').squeeze S128x128 hq'))
    (via := ReadAs.same) (dst := (((midM).slice (Rect.unit (s := S50x8x4x2x128x128) o S1x1x1x1x128x128.size hb) hs).squeeze S128x128 hq))
    (hsrc := hw) (hdst := hw') (hsem := ht) (k := kk) (D := Dlv d L X Tb R r j) (q := fullShare) (fs := g) (fd := f₀) (Sd := block L r h j) (none : HIx 1) DN rfl (subset_of_eq oset') h.isLt
    (Nat.zero_le _) ?_) $$ [Hr Hm HB]
  · unfold Dlv
    iintro ⟨Hm, Hr⟩
    isplitl [Hm]
    · refine Entails.of_eq (pointsTo_congr fun y hy => ?_)
      exact copy_out X Tb L R g f₀ r h j hg o hb hs hq ho o' hb' hs' hq' ho' y hy
    · iexists g
      rw [← hset']
      iexact Hr
  · isplitl [Hr]
    · rw [hset']; iexact Hr
    isplitl [Hm]; · iexact Hm
    iexact HB
  iexact Hk

/-- The first of the two waits for list `r`'s copies. -/
theorem copy_wait {α : Type} {Q : α → sProp 𝕄} {kk : PUnit.{1} → Prog (TpuEff nD τ sig (Elt F) Λ₀ (.scVector (cV L) (jV L))) α}
    (r : Fin 2) (j : ℕ) (sem : DmaSem sig) {sp' : Space} {s' : Shape} {e' : EltTy} {src : Memref sig .scVector sp' s' e'} {hsrc : src.view.WordExact}
    (o : Fin 6 → ℕ) (hb) (hs) (hq) {hdst : (((midM).slice (Rect.unit (s := S50x8x4x2x128x128) o S1x1x1x1x128x128.size hb) hs).squeeze S128x128 hq).view.WordExact}
    (O : CellTallies nD τ sig (HIx 1)) (W : Waits sig (HIx 1)) :
    (iprop(Bt d L X Tb R sem r j 2 0 ∗ Ow d L O W ∗ Transfers.MayWaits (thr d L) (none : HIx 1) O) : sProp 𝕄)
      ⊢ iprop((iprop(Bt d L X Tb R sem r j 2 DN ∗ Ow d L O W) -∗ wp frame (wpE (defs₀ (F := F)) 𝒱₀ (thr d L) none) Set.univ (kk ⟨⟩) Q)
          -∗ wp frame (wpE (defs₀ (F := F)) 𝒱₀ (thr d L) none) Set.univ
            (.op (.waitDma2 sem src (((midM).slice (Rect.unit (s := S50x8x4x2x128x128) o S1x1x1x1x128x128.size hb) hs).squeeze S128x128 hq) hsrc hdst) kk) Q) := by
  unfold Ow
  iintro ⟨HB, ⟨%W', %hW', HO⟩, #Hmw⟩ Hk
  iapply (wp_waitBatchO countersEmb 𝒱₀ (thr d L) none (srcw := src) (dstw := (((midM).slice (Rect.unit (s := S50x8x4x2x128x128) o S1x1x1x1x128x128.size hb) hs).squeeze S128x128 hq)) (hsrc := hsrc) (hdst := hdst) (k := kk)
    (none : HIx 1) (N := DN) rfl (D := Dlv d L X Tb R r j) (u := 0) (by decide)) $$ [HB HO]
  · isplitl [HB]; · iexact HB
    isplitl [HO]; · iexact HO
    iapply (Transfers.MayWaits.elim (SemLoc.dma sem)) $$ Hmw
  iintro ⟨HB, HO⟩
  iapply Hk
  isplitl [HB]; · rw [Nat.zero_add]; iexact HB
  iexists _
  isplitr
  rotate_left
  · iexact HO
  · ipureintro
    intro p hp
    rcases Finset.mem_insert.mp hp with rfl | hp
    · exact Or.inr rfl
    · exact hW' p hp

/-- The second wait: both blocks of the filled array written, and the row buffer back. -/
theorem copy_wait_last {α : Type} {Q : α → sProp 𝕄} {kk : PUnit.{1} → Prog (TpuEff nD τ sig (Elt F) Λ₀ (.scVector (cV L) (jV L))) α}
    (hR : R.view.set = Finset.univ) (r : Fin 2) (j : ℕ) (sem : DmaSem sig) {sp' : Space} {s' : Shape} {e' : EltTy} {src : Memref sig .scVector sp' s' e'} {hsrc : src.view.WordExact}
    (o : Fin 6 → ℕ) (hb) (hs) (hq) {hdst : (((midM).slice (Rect.unit (s := S50x8x4x2x128x128) o S1x1x1x1x128x128.size hb) hs).squeeze S128x128 hq).view.WordExact}
    (O : CellTallies nD τ sig (HIx 1)) (W : Waits sig (HIx 1)) :
    (iprop(Bt d L X Tb R sem r j 2 DN ∗ Ow d L O W ∗ Transfers.MayWaits (thr d L) (none : HIx 1) O) : sProp 𝕄)
      ⊢ iprop((iprop(((midM).view.loc (thr d L) ↦[block L r 0 j ∪ block L r 1 j]{fullShare} (midV X Tb : S50x8x4x2x128x128.Idx → F .f32))
              ∗ (∃ f, R.view.loc (thr d L) ↦{fullShare} f) ∗ semVal (thr d L, .dma sem) 0 ∗ Ow d L O W)
            -∗ wp frame (wpE (defs₀ (F := F)) 𝒱₀ (thr d L) none) Set.univ (kk ⟨⟩) Q)
          -∗ wp frame (wpE (defs₀ (F := F)) 𝒱₀ (thr d L) none) Set.univ
            (.op (.waitDma2 sem src (((midM).slice (Rect.unit (s := S50x8x4x2x128x128) o S1x1x1x1x128x128.size hb) hs).squeeze S128x128 hq) hsrc hdst) kk) Q) := by
  unfold Ow
  iintro ⟨HB, ⟨%W', %hW', HO⟩, #Hmw⟩ Hk
  iapply (wp_waitBatchLastO countersEmb 𝒱₀ (thr d L) none (srcw := src) (dstw := (((midM).slice (Rect.unit (s := S50x8x4x2x128x128) o S1x1x1x1x128x128.size hb) hs).squeeze S128x128 hq)) (hsrc := hsrc) (hdst := hdst) (k := kk)
    (none : HIx 1) (N := DN) rfl (by decide) (D := Dlv d L X Tb R r j) (u := DN) (by decide)) $$ [HB HO]
  · isplitl [HB]; · iexact HB
    isplitl [HO]; · iexact HO
    iapply (Transfers.MayWaits.elim (SemLoc.dma sem)) $$ Hmw
  iintro ⟨HD, Hs, HO⟩
  ihave HD := (out_done d L X Tb R hR r j) $$ HD
  icases HD with ⟨Hm, Hr⟩
  iapply Hk
  isplitl [Hm]; · iexact Hm
  isplitl [Hr]; · iexact Hr
  isplitl [Hs]; · iexact Hs
  iexists _
  isplitr
  rotate_left
  · iexact HO
  · ipureintro
    intro p hp
    rcases Finset.mem_insert.mp hp with rfl | hp
    · exact Or.inr rfl
    · exact hW' p hp

end Cert.KernelIdeal.Gather

end
-- ==== Proof.Trip.lean ====
/- One trip of the gather kernel's loop: the two lists' rows waited for, copied out, and, but in the last trip, the copies
   waited for and the lists and gathers of the next trip set going. -/
module

public import proofs.«01_k».proof.Proof.Steps

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch wp_dmaBatch wp_waitBatchO wp_waitBatchLastO)

variable {F : FTy → Type}

local notation "𝕄" => MT nD τ sig (HIx 1) (Elt F) ℕ UU ℕ

local notation "tbM" => (Memref.whole Cert.KernelIdeal.main_v7_scv : Memref Cert.KernelIdeal.sig Kind.scVector Space.hbm Cert.KernelIdeal.S4000x2x128 EltTy.f32)
local notation "midM" => (Memref.whole Cert.KernelIdeal.main_v8_scv : Memref Cert.KernelIdeal.sig Kind.scVector Space.hbm Cert.KernelIdeal.S50x8x4x2x128x128 EltTy.f32)

local notation "idM" => (Memref.whole Cert.KernelIdeal.main_v3_scv : Memref Cert.KernelIdeal.sig Kind.scVector Space.hbm Cert.KernelIdeal.S8x56x128 EltTy.i32)
local notation "ixM" => (Memref.whole Cert.KernelIdeal.cc0_scratch0 : Memref Cert.KernelIdeal.sig Kind.scVector Space.vmem Cert.KernelIdeal.S32x128 EltTy.i32)
local notation "raM" => (Memref.whole Cert.KernelIdeal.cc0_scratch1 : Memref Cert.KernelIdeal.sig Kind.scVector Space.vmem Cert.KernelIdeal.S128x2x128 EltTy.f32)
local notation "rbM" => (Memref.whole Cert.KernelIdeal.cc0_scratch2 : Memref Cert.KernelIdeal.sig Kind.scVector Space.vmem Cert.KernelIdeal.S128x2x128 EltTy.f32)
local notation "laM" => (Memref.whole Cert.KernelIdeal.cc0_scratch3 : Memref Cert.KernelIdeal.sig Kind.scVector Space.vmem Cert.KernelIdeal.S128 EltTy.i32)
local notation "lbM" => (Memref.whole Cert.KernelIdeal.cc0_scratch4 : Memref Cert.KernelIdeal.sig Kind.scVector Space.vmem Cert.KernelIdeal.S128 EltTy.i32)

variable [FloatOps F] (d : Dev nD) (L : grid0.Coords)

variable (X : S8x56x128.Idx → BitVec 32) (Tb : S4000x2x128.Idx → F .f32)

/-- The kernel's loop over its trips. -/
abbrev bodyOf (v2 v5 v55 v58 : BitVec 32) (v87 : IVec S16 32) :=
  k0_t1_body (F := F) L idM (Memref.isWhole_whole _) tbM (Memref.isWhole_whole _) midM (Memref.isWhole_whole _)
    ixM (Memref.isWhole_whole _) raM (Memref.isWhole_whole _) rbM (Memref.isWhole_whole _) laM (Memref.isWhole_whole _) lbM (Memref.isWhole_whole _)
    cc0_scratch5 cc0_scratch6 cc0_scratch7 cc0_scratch8 cc0_scoped0 v2 v5 v55 v58 v87

/-- One list before trip `j`: its gather in flight, or, after the last trip, that trip's copies in flight. -/
def Side (R : Memref sig .scVector .vmem S128x2x128 .f32) (l : Memref sig .scVector .vmem S128 .i32) (gs ws : DmaSem sig) (q : PosShare TreeShare) (r : Fin 2) (j : ℕ) : sProp 𝕄 :=
  if j < 25 then iprop(Gf d L X Tb R l gs q r j ∗ semVal (thr d L, .dma ws) 0)
  else iprop(((tbM).view.loc (thr d L) ↦{q} (Tb : S4000x2x128.Idx → F .f32)) ∗ (∃ f, l.view.loc (thr d L) ↦{fullShare} f) ∗ semVal (thr d L, .dma gs) 0
    ∗ Bt d L X Tb R ws r 24 2 0)

/-- What holds before trip `j`. -/
def Inv (f₀ : S50x8x4x2x128x128.Idx → F .f32) (qa qb : PosShare TreeShare) (O : CellTallies nD τ sig (HIx 1)) (W : Waits sig (HIx 1)) (j : ℕ) : sProp 𝕄 :=
  iprop(((ixM).view.loc (thr d L) ↦{fullShare} (idxV X L : S32x128.Idx → BitVec 32))
    ∗ ((midM).view.loc (thr d L) ↦[part L 0 (min j 24)]{fullShare} (midV X Tb : S50x8x4x2x128x128.Idx → F .f32))
    ∗ ((midM).view.loc (thr d L) ↦[part L j 25]{fullShare} f₀) ∗ Ow d L O W
    ∗ Side d L X Tb raM laM cc0_scratch5.sem cc0_scratch7.sem qa 0 j ∗ Side d L X Tb rbM lbM cc0_scratch6.sem cc0_scratch8.sem qb 1 j)

/-- The blocks of trip `j` taken off what is still to be written. -/
theorem take_blocks (f₀ : S50x8x4x2x128x128.Idx → F .f32) {j : ℕ} (hj : j < 25) :
    ((midM).view.loc (thr d L) ↦[part L j 25]{fullShare} f₀ : sProp 𝕄)
      ⊢ iprop(((midM).view.loc (thr d L) ↦[block L 0 0 j]{fullShare} f₀) ∗ ((midM).view.loc (thr d L) ↦[block L 0 1 j]{fullShare} f₀)
        ∗ ((midM).view.loc (thr d L) ↦[block L 1 0 j]{fullShare} f₀) ∗ ((midM).view.loc (thr d L) ↦[block L 1 1 j]{fullShare} f₀)
        ∗ (midM).view.loc (thr d L) ↦[part L (j + 1) 25]{fullShare} f₀) := by
  have hd : ∀ {r h r' h' : Fin 2}, (r.val ≠ r'.val ∨ h.val ≠ h'.val) → Disjoint (block L r h j) (block L r' h' j) := fun h => block_disjoint L j h
  have hp : ∀ r h : Fin 2, Disjoint (block L r h j) (part L (j + 1) 25) := block_part_disjoint L (Or.inl (Nat.lt_succ_self j))
  rw [part_split, if_pos hj]
  iintro H
  ihave H := (pointsTo_union (Finset.disjoint_union_left.mpr
    ⟨Finset.disjoint_union_right.mpr ⟨Finset.disjoint_union_right.mpr ⟨hd (by decide), hd (by decide)⟩, hp 0 0⟩,
      Finset.disjoint_union_right.mpr ⟨Finset.disjoint_union_right.mpr ⟨hd (by decide), hd (by decide)⟩, hp 0 1⟩⟩)).1 $$ H
  icases H with ⟨Ha, H⟩
  ihave Ha := (pointsTo_union (hd (by decide))).1 $$ Ha
  icases Ha with ⟨Ha0, Ha1⟩
  ihave H := (pointsTo_union (Finset.disjoint_union_left.mpr ⟨hp 1 0, hp 1 1⟩)).1 $$ H
  icases H with ⟨Hb, H⟩
  ihave Hb := (pointsTo_union (hd (by decide))).1 $$ Hb
  icases Hb with ⟨Hb0, Hb1⟩
  isplitl [Ha0]; · iexact Ha0
  isplitl [Ha1]; · iexact Ha1
  isplitl [Hb0]; · iexact Hb0
  isplitl [Hb1]; · iexact Hb1
  iexact H

/-- The blocks of trip `j`, written, put to what is written. -/
theorem put_blocks (j : ℕ) :
    (iprop(((midM).view.loc (thr d L) ↦[part L 0 j]{fullShare} (midV X Tb : S50x8x4x2x128x128.Idx → F .f32))
        ∗ ((midM).view.loc (thr d L) ↦[block L 0 0 j ∪ block L 0 1 j]{fullShare} (midV X Tb : S50x8x4x2x128x128.Idx → F .f32))
        ∗ ((midM).view.loc (thr d L) ↦[block L 1 0 j ∪ block L 1 1 j]{fullShare} (midV X Tb : S50x8x4x2x128x128.Idx → F .f32))) : sProp 𝕄)
      ⊢ (midM).view.loc (thr d L) ↦[part L 0 (j + 1)]{fullShare} (midV X Tb : S50x8x4x2x128x128.Idx → F .f32) := by
  have hd : ∀ {r h r' h' : Fin 2}, (r.val ≠ r'.val ∨ h.val ≠ h'.val) → Disjoint (block L r h j) (block L r' h' j) := fun h => block_disjoint L j h
  have hp : ∀ r h : Fin 2, Disjoint (part L 0 j) (block L r h j) := fun r h => (block_part_disjoint L (Or.inr (Nat.le_refl j)) r h).symm
  rw [part_grow]
  iintro ⟨H, Ha, Hb⟩
  iapply (pointsTo_union (Finset.disjoint_union_right.mpr ⟨Finset.disjoint_union_right.mpr ⟨hp 0 0, hp 0 1⟩, Finset.disjoint_union_right.mpr ⟨hp 1 0, hp 1 1⟩⟩)).2
  isplitl [H]; · iexact H
  iapply (pointsTo_union (Finset.disjoint_union_left.mpr ⟨Finset.disjoint_union_right.mpr ⟨hd (by decide), hd (by decide)⟩,
    Finset.disjoint_union_right.mpr ⟨hd (by decide), hd (by decide)⟩⟩)).2
  isplitl [Ha]; · iexact Ha
  iexact Hb

set_option maxHeartbeats 4000000 in
/-- A trip takes what holds before it to what holds before the next. -/
theorem trip (hX : InRange X) (f₀ : S50x8x4x2x128x128.Idx → F .f32) (qa qb : PosShare TreeShare) (O : CellTallies nD τ sig (HIx 1)) (W : Waits sig (HIx 1))
    (v5 v55 v58 : BitVec 32) (v87 : IVec S16 32) (j : Fin k0_t1_loop.trips) :
    (iprop(Transfers.MayWaits (thr d L) (none : HIx 1) O ∗ Inv d L X Tb f₀ qa qb O W j.val) : sProp 𝕄)
      ⊢ wp frame (wpE (defs₀ (F := F)) 𝒱₀ (thr d L) none) Set.univ
          (bodyOf L (Scalar.andi (Scalar.addi (Scalar.muli (BitVec.ofNat 32 (L 1).val) 2#32) (BitVec.ofNat 32 (L 0).val)) 1#32) v5 v55 v58 v87 j ())
          fun _ => Inv d L X Tb f₀ qa qb O W (j.val + 1) := by
  have hj : j.val < 25 := trips_eq ▸ j.isLt
  have hra : (raM).view.set = Finset.univ := View.set_whole _
  have hrb : (rbM).view.set = Finset.univ := View.set_whole _
  unfold Inv Side
  rw [if_pos hj, if_pos hj]
  iintro ⟨#Hmw, Hix, Hdone, Hrest, HO, ⟨HGa, Hwa⟩, ⟨HGb, Hwb⟩⟩
  ihave Hrest := (take_blocks d L f₀ hj) $$ Hrest
  icases Hrest with ⟨Ha0, Ha1, Hb0, Hb1, Hrest⟩
  unfold bodyOf k0_t1_body
  simp -proj only [k0_part5_eq_skeleton, k0_part6_eq_skeleton]
  unfold k0_part5_skel k0_part6_skel SparseCore.waitIndirectGather
  simp -proj only [Prog.lift, Prog.bind_op, Prog.bind_ret, Prog.pure_eq_ret, Prog.bind_assoc]
  iapply (gather_wait d L X Tb raM laM qa 0 j.val _ O W) $$ [HGa HO]
  · isplitl [HGa]; · iexact HGa
    isplitl [HO]; · iexact HO
    iexact Hmw
  unfold Gd
  iintro ⟨⟨⟨%ga, %hga, Hra⟩, Hta, Hla⟩, Hga, HO⟩
  ihave Hra := (rows_split d L raM hra ga) $$ Hra
  icases Hra with ⟨Hra0, Hra1⟩
  imod (Transfers.batch_alloc' countersEmb (thr d L) (none : HIx 1) DN (Dlv d L X Tb raM 0 j.val)) $$ Hwa with HBa
  iapply (copy_step d L X Tb raM 0 0 j.val _ ga hga f₀ _ _ _ _ (off10_eq L j 0) _ _ _ _ rfl) $$ [Hra0 Ha0 HBa]
  · isplitl [Hra0]; · iexact Hra0
    isplitl [Ha0]; · iexact Ha0
    iexact HBa
  iintro HBa
  iapply (copy_step d L X Tb raM 0 1 j.val _ ga hga f₀ _ _ _ _ (off11_eq L j 0) _ _ _ _ rfl) $$ [Hra1 Ha1 HBa]
  · isplitl [Hra1]; · iexact Hra1
    isplitl [Ha1]; · iexact Ha1
    iexact HBa
  iintro HBa
  by_cases h1 : k0_cond1 j = 1#1
  · have hlt := (cond1_iff j).mp h1
    rw [dif_pos h1]
    simp -proj only [k0_part1_eq_skeleton, k0_part2_eq_skeleton]
    unfold k0_part1_skel k0_part2_skel
    simp -proj only [Prog.lift, Prog.bind_op, Prog.bind_ret, Prog.pure_eq_ret, Prog.bind_assoc]
    iapply (copy_wait d L X Tb raM 0 j.val _ _ _ _ _ O W) $$ [HBa HO]
    · isplitl [HBa]; · iexact HBa
      isplitl [HO]; · iexact HO
      iexact Hmw
    iintro ⟨HBa, HO⟩
    iapply (copy_wait_last d L X Tb raM hra 0 j.val _ _ _ _ _ O W) $$ [HBa HO]
    · isplitl [HBa]; · iexact HBa
      isplitl [HO]; · iexact HO
      iexact Hmw
    iintro ⟨Hma, ⟨%ra', Hra⟩, Hwa, HO⟩
    icases Hla with ⟨%fla, Hla⟩
    sl_exec
    have hfill := fill_list (F := F) X L (laM).view (laM).view.junk 0 (j.val + 1) (idxV X L) _ rfl (word_eq L 0)
      (k0_off14 L j) (k0_off15 L j) (k0_off16 L j) (k0_off17 L j) (k0_off18 L j) (k0_off19 L j) (k0_off20 L j) (k0_off21 L j)
      (k0_off14_inb L j h1) (k0_off15_inb L j h1) (k0_off16_inb L j h1) (k0_off17_inb L j h1) (k0_off18_inb L j h1) (k0_off19_inb L j h1) (k0_off20_inb L j h1) (k0_off21_inb L j h1)
      (off14_eq L j) (off15_eq L j) (off16_eq L j) (off17_eq L j) (off18_eq L j) (off19_eq L j) (off20_eq L j) (off21_eq L j)
    iapply (gather_step d L X Tb raM laM hX qa 0 (show j.val + 1 < 25 by omega) _ (by decide) _ _ _ _ _ _ _ _ ra' _ hfill) $$ [Hta Hra Hla Hga]
    · isplitl [Hta]; · iexact Hta
      isplitl [Hra]; · iexact Hra
      isplitl [Hla]; · iexact Hla
      iexact Hga
    iintro HGa
    iapply (gather_wait d L X Tb rbM lbM qb 1 j.val _ O W) $$ [HGb HO]
    · isplitl [HGb]; · iexact HGb
      isplitl [HO]; · iexact HO
      iexact Hmw
    unfold Gd
    iintro ⟨⟨⟨%gb, %hgb, Hrb⟩, Htb, Hlb⟩, Hgb, HO⟩
    ihave Hrb := (rows_split d L rbM hrb gb) $$ Hrb
    icases Hrb with ⟨Hrb0, Hrb1⟩
    imod (Transfers.batch_alloc' countersEmb (thr d L) (none : HIx 1) DN (Dlv d L X Tb rbM 1 j.val)) $$ Hwb with HBb
    iapply (copy_step d L X Tb rbM 1 0 j.val _ gb hgb f₀ _ _ _ _ (off10_eq L j 1) _ _ _ _ rfl) $$ [Hrb0 Hb0 HBb]
    · isplitl [Hrb0]; · iexact Hrb0
      isplitl [Hb0]; · iexact Hb0
      iexact HBb
    iintro HBb
    iapply (copy_step d L X Tb rbM 1 1 j.val _ gb hgb f₀ _ _ _ _ (off11_eq L j 1) _ _ _ _ rfl) $$ [Hrb1 Hb1 HBb]
    · isplitl [Hrb1]; · iexact Hrb1
      isplitl [Hb1]; · iexact Hb1
      iexact HBb
    iintro HBb
    have h2 : k0_cond2 j = 1#1 := (cond2_iff j).mpr hlt
    rw [dif_pos h2]
    simp -proj only [k0_part3_eq_skeleton, k0_part4_eq_skeleton]
    unfold k0_part3_skel k0_part4_skel
    simp -proj only [Prog.lift, Prog.bind_op, Prog.bind_ret, Prog.pure_eq_ret, Prog.bind_assoc]
    iapply (copy_wait d L X Tb rbM 1 j.val _ _ _ _ _ O W) $$ [HBb HO]
    · isplitl [HBb]; · iexact HBb
      isplitl [HO]; · iexact HO
      iexact Hmw
    iintro ⟨HBb, HO⟩
    iapply (copy_wait_last d L X Tb rbM hrb 1 j.val _ _ _ _ _ O W) $$ [HBb HO]
    · isplitl [HBb]; · iexact HBb
      isplitl [HO]; · iexact HO
      iexact Hmw
    iintro ⟨Hmb, ⟨%rb', Hrb⟩, Hwb, HO⟩
    icases Hlb with ⟨%flb, Hlb⟩
    sl_exec
    have hfill := fill_list (F := F) X L (lbM).view (lbM).view.junk 1 (j.val + 1) (idxV X L) _ rfl (word_eq L 1)
      (k0_off24 L j) (k0_off25 L j) (k0_off26 L j) (k0_off27 L j) (k0_off28 L j) (k0_off29 L j) (k0_off30 L j) (k0_off31 L j)
      (k0_off24_inb L j h2) (k0_off25_inb L j h2) (k0_off26_inb L j h2) (k0_off27_inb L j h2) (k0_off28_inb L j h2) (k0_off29_inb L j h2) (k0_off30_inb L j h2) (k0_off31_inb L j h2)
      (off24_eq L j) (off25_eq L j) (off26_eq L j) (off27_eq L j) (off28_eq L j) (off29_eq L j) (off30_eq L j) (off31_eq L j)
    iapply (gather_step d L X Tb rbM lbM hX qb 1 (show j.val + 1 < 25 by omega) _ (by decide) _ _ _ _ _ _ _ _ rb' _ hfill) $$ [Htb Hrb Hlb Hgb]
    · isplitl [Htb]; · iexact Htb
      isplitl [Hrb]; · iexact Hrb
      isplitl [Hlb]; · iexact Hlb
      iexact Hgb
    iintro HGb
    sl_step
    rw [if_pos (show j.val + 1 < 25 by omega), if_pos (show j.val + 1 < 25 by omega), Nat.min_eq_left (show j.val ≤ 24 by omega), Nat.min_eq_left (show j.val + 1 ≤ 24 by omega)]
    isplitl [Hix]; · iexact Hix
    isplitl [Hdone Hma Hmb]
    · iapply (put_blocks d L X Tb j.val)
      isplitl [Hdone]; · iexact Hdone
      isplitl [Hma]; · iexact Hma
      iexact Hmb
    isplitl [Hrest]; · iexact Hrest
    isplitl [HO]; · iexact HO
    isplitl [HGa Hwa]
    · isplitl [HGa]; · iexact HGa
      iexact Hwa
    isplitl [HGb]; · iexact HGb
    iexact Hwb
  · have h24 : j.val = 24 := by have := mt (cond1_iff j).mpr h1; omega
    rw [dif_neg h1]
    simp -proj only [Prog.lift, Prog.bind_op, Prog.bind_ret, Prog.pure_eq_ret, Prog.bind_assoc]
    iapply (gather_wait d L X Tb rbM lbM qb 1 j.val _ O W) $$ [HGb HO]
    · isplitl [HGb]; · iexact HGb
      isplitl [HO]; · iexact HO
      iexact Hmw
    unfold Gd
    iintro ⟨⟨⟨%gb, %hgb, Hrb⟩, Htb, Hlb⟩, Hgb, HO⟩
    ihave Hrb := (rows_split d L rbM hrb gb) $$ Hrb
    icases Hrb with ⟨Hrb0, Hrb1⟩
    imod (Transfers.batch_alloc' countersEmb (thr d L) (none : HIx 1) DN (Dlv d L X Tb rbM 1 j.val)) $$ Hwb with HBb
    iapply (copy_step d L X Tb rbM 1 0 j.val _ gb hgb f₀ _ _ _ _ (off10_eq L j 1) _ _ _ _ rfl) $$ [Hrb0 Hb0 HBb]
    · isplitl [Hrb0]; · iexact Hrb0
      isplitl [Hb0]; · iexact Hb0
      iexact HBb
    iintro HBb
    iapply (copy_step d L X Tb rbM 1 1 j.val _ gb hgb f₀ _ _ _ _ (off11_eq L j 1) _ _ _ _ rfl) $$ [Hrb1 Hb1 HBb]
    · isplitl [Hrb1]; · iexact Hrb1
      isplitl [Hb1]; · iexact Hb1
      iexact HBb
    iintro HBb
    have h2 : ¬ k0_cond2 j = 1#1 := mt (cond2_iff j).mp (by omega)
    rw [dif_neg h2]
    sl_step
    rw [if_neg (show ¬ j.val + 1 < 25 by omega), if_neg (show ¬ j.val + 1 < 25 by omega), show min (j.val + 1) 24 = min j.val 24 by omega, ← h24]
    isplitl [Hix]; · iexact Hix
    isplitl [Hdone]; · iexact Hdone
    isplitl [Hrest]; · iexact Hrest
    isplitl [HO]; · iexact HO
    isplitl [Hta Hla Hga HBa]
    · isplitl [Hta]; · iexact Hta
      isplitl [Hla]; · iexact Hla
      isplitl [Hga]; · iexact Hga
      iexact HBa
    isplitl [Htb]; · iexact Htb
    isplitl [Hlb]; · iexact Hlb
    isplitl [Hgb]; · iexact Hgb
    iexact HBb

end Cert.KernelIdeal.Gather

end
-- ==== Proof.Tile.lean ====
/- The gather kernel's task: the index copy, the first two lists and gathers, the trips of the loop, and the last waits. -/
module

public import proofs.«01_k».proof.Proof.Trip

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch wp_dmaBatch wp_waitBatchO wp_waitBatchLastO)

variable {F : FTy → Type}

local notation "𝕄" => MT nD τ sig (HIx 1) (Elt F) ℕ UU ℕ

local notation "tbM" => (Memref.whole Cert.KernelIdeal.main_v7_scv : Memref Cert.KernelIdeal.sig Kind.scVector Space.hbm Cert.KernelIdeal.S4000x2x128 EltTy.f32)
local notation "midM" => (Memref.whole Cert.KernelIdeal.main_v8_scv : Memref Cert.KernelIdeal.sig Kind.scVector Space.hbm Cert.KernelIdeal.S50x8x4x2x128x128 EltTy.f32)

local notation "idM" => (Memref.whole Cert.KernelIdeal.main_v3_scv : Memref Cert.KernelIdeal.sig Kind.scVector Space.hbm Cert.KernelIdeal.S8x56x128 EltTy.i32)
local notation "ixM" => (Memref.whole Cert.KernelIdeal.cc0_scratch0 : Memref Cert.KernelIdeal.sig Kind.scVector Space.vmem Cert.KernelIdeal.S32x128 EltTy.i32)
local notation "raM" => (Memref.whole Cert.KernelIdeal.cc0_scratch1 : Memref Cert.KernelIdeal.sig Kind.scVector Space.vmem Cert.KernelIdeal.S128x2x128 EltTy.f32)
local notation "rbM" => (Memref.whole Cert.KernelIdeal.cc0_scratch2 : Memref Cert.KernelIdeal.sig Kind.scVector Space.vmem Cert.KernelIdeal.S128x2x128 EltTy.f32)
local notation "laM" => (Memref.whole Cert.KernelIdeal.cc0_scratch3 : Memref Cert.KernelIdeal.sig Kind.scVector Space.vmem Cert.KernelIdeal.S128 EltTy.i32)
local notation "lbM" => (Memref.whole Cert.KernelIdeal.cc0_scratch4 : Memref Cert.KernelIdeal.sig Kind.scVector Space.vmem Cert.KernelIdeal.S128 EltTy.i32)

variable [FloatOps F] (d : Dev nD) (L : grid0.Coords)

/-- A trip, what it may wait on kept. -/
theorem trip_kept (X : S8x56x128.Idx → BitVec 32) (Tb : S4000x2x128.Idx → F .f32) (hX : InRange X) (f₀ : S50x8x4x2x128x128.Idx → F .f32) (qa qb : PosShare TreeShare) (O : CellTallies nD τ sig (HIx 1)) (W : Waits sig (HIx 1))
    (v5 v55 v58 : BitVec 32) (v87 : IVec S16 32) (j : Fin k0_t1_loop.trips) :
    (iprop(Transfers.MayWaits (thr d L) (none : HIx 1) O ∗ Inv d L X Tb f₀ qa qb O W j.val) : sProp 𝕄)
      ⊢ wp frame (wpE (defs₀ (F := F)) 𝒱₀ (thr d L) none) Set.univ
          (bodyOf L (Scalar.andi (Scalar.addi (Scalar.muli (BitVec.ofNat 32 (L 1).val) 2#32) (BitVec.ofNat 32 (L 0).val)) 1#32) v5 v55 v58 v87 j ())
          fun _ => iprop(Transfers.MayWaits (thr d L) (none : HIx 1) O ∗ Inv d L X Tb f₀ qa qb O W (j.val + 1)) := by
  iintro ⟨#Hmw, HI⟩
  iapply (wp_frame_l frame (wpE (defs₀ (F := F)) 𝒱₀ (thr d L) none) Set.univ)
  isplitr; · iexact Hmw
  iapply (trip d L X Tb hX f₀ qa qb O W v5 v55 v58 v87 j)
  isplitr; · iexact Hmw
  iexact HI

set_option maxHeartbeats 4000000 in
/-- A task's run: from the index array and the table at a share, its part of the array to fill, its own buffers and semaphores, it
    ends with the same, its part holding the gathered rows. -/
theorem tile_body (X : S8x56x128.Idx → BitVec 32) (Tb : S4000x2x128.Idx → F .f32) (f₀ : S50x8x4x2x128x128.Idx → F .f32)
    (hX : InRange X) (q₃ q₇ : PosShare TreeShare)
    (O : CellTallies nD τ sig (HIx 1)) (W : Waits sig (HIx 1)) :
    (iprop(Transfers.MayWaits (thr d L) (none : HIx 1) O ∗ ((idM).view.loc (thr d L) ↦{q₃} X) ∗ ((tbM).view.loc (thr d L) ↦{q₇} Tb) ∗ ((midM).view.loc (thr d L) ↦[part L 0 25]{fullShare} f₀)
        ∗ (∃ f, (ixM).view.loc (thr d L) ↦{fullShare} f) ∗ (∃ f, (raM).view.loc (thr d L) ↦{fullShare} f) ∗ (∃ f, (rbM).view.loc (thr d L) ↦{fullShare} f)
        ∗ (∃ f, (laM).view.loc (thr d L) ↦{fullShare} f) ∗ (∃ f, (lbM).view.loc (thr d L) ↦{fullShare} f)
        ∗ semVal (thr d L, .dma cc0_scratch5.sem) 0 ∗ semVal (thr d L, .dma cc0_scratch6.sem) 0 ∗ semVal (thr d L, .dma cc0_scratch7.sem) 0
        ∗ semVal (thr d L, .dma cc0_scratch8.sem) 0 ∗ semVal (thr d L, .dma cc0_scoped0.sem) 0
        ∗ owes (thr d L) O W) : sProp 𝕄)
      ⊢ wp frame (wpE (defs₀ (F := F)) 𝒱₀ (thr d L) none) Set.univ
          (cc0_gather L idM (Memref.isWhole_whole _) tbM (Memref.isWhole_whole _) midM (Memref.isWhole_whole _)
            ixM (Memref.isWhole_whole _) raM (Memref.isWhole_whole _) rbM (Memref.isWhole_whole _) laM (Memref.isWhole_whole _) lbM (Memref.isWhole_whole _)
            cc0_scratch5 cc0_scratch6 cc0_scratch7 cc0_scratch8 cc0_scoped0)
          fun _ => iprop(((idM).view.loc (thr d L) ↦{q₃} X) ∗ ((tbM).view.loc (thr d L) ↦{q₇} Tb)
            ∗ ((midM).view.loc (thr d L) ↦[part L 0 25]{fullShare} (midV X Tb : S50x8x4x2x128x128.Idx → F .f32))
            ∗ (∃ f, (ixM).view.loc (thr d L) ↦{fullShare} f) ∗ (∃ f, (raM).view.loc (thr d L) ↦{fullShare} f) ∗ (∃ f, (rbM).view.loc (thr d L) ↦{fullShare} f)
            ∗ (∃ f, (laM).view.loc (thr d L) ↦{fullShare} f) ∗ (∃ f, (lbM).view.loc (thr d L) ↦{fullShare} f)
            ∗ semVal (thr d L, .dma cc0_scratch5.sem) 0 ∗ semVal (thr d L, .dma cc0_scratch6.sem) 0 ∗ semVal (thr d L, .dma cc0_scratch7.sem) 0
            ∗ semVal (thr d L, .dma cc0_scratch8.sem) 0 ∗ semVal (thr d L, .dma cc0_scoped0.sem) 0 ∗ Ow d L O W) := by
  have hra : (raM).view.set = Finset.univ := View.set_whole _
  have hrb : (rbM).view.set = Finset.univ := View.set_whole _
  iintro ⟨#Hmw, Hid, Htb, Hmid, ⟨%fx, Hix⟩, ⟨%fra, Hra⟩, ⟨%frb, Hrb⟩, ⟨%fla, Hla⟩, ⟨%flb, Hlb⟩, Hsa, Hsb, Hwa, Hwb, HsE, HO⟩
  sl_unfold [cc0_gather]
  sl_exec
  have hix : View.write (Elt F) (ixM).view fx (tile_body.sl.dma0 L X) Finset.univ = idxV X L :=
    (View.write_whole_univ _ _ _).trans
      (index_rows (F := F) X L (k0_off1 L) (k0_off1_inb L) (fun _ => rfl) squeezes_S1x32x128_S32x128 (off1_eq L))
  ihave Htb := (pointsTo_share (PosShare.mem_left_op_right q₇)).1 $$ Htb
  icases Htb with ⟨Hta, Htb⟩
  have hfilla := fill_list (F := F) X L (laM).view (laM).view.junk 0 0 _ _ hix (word_eq L 0)
    (k0_off2 L (BitVec.ofNat 32 0)) (k0_off3 L (BitVec.ofNat 32 0)) (k0_off4 L (BitVec.ofNat 32 0)) (k0_off5 L (BitVec.ofNat 32 0)) (k0_off6 L (BitVec.ofNat 32 0)) (k0_off7 L (BitVec.ofNat 32 0)) (k0_off8 L (BitVec.ofNat 32 0)) (k0_off9 L (BitVec.ofNat 32 0))
    (k0_off2_inb L 0) (k0_off3_inb L 0) (k0_off4_inb L 0) (k0_off5_inb L 0) (k0_off6_inb L 0) (k0_off7_inb L 0) (k0_off8_inb L 0) (k0_off9_inb L 0)
    (off2_eq L 0) (off3_eq L 0) (off4_eq L 0) (off5_eq L 0) (off6_eq L 0) (off7_eq L 0) (off8_eq L 0) (off9_eq L 0)
  iapply (gather_step d L X Tb raM laM hX q₇.left 0 (show 0 < 25 by omega) _ (by decide) _ _ _ _ _ _ _ _ fra _ hfilla) $$ [Hta Hra Hla Hsa]
  · isplitl [Hta]; · iexact Hta
    isplitl [Hra]; · iexact Hra
    isplitl [Hla]; · iexact Hla
    iexact Hsa
  iintro HGa
  sl_exec
  have hfillb := fill_list (F := F) X L (lbM).view (lbM).view.junk 1 0 _ _ hix (word_eq L 1)
    (k0_off2 L (BitVec.ofNat 32 1)) (k0_off3 L (BitVec.ofNat 32 1)) (k0_off4 L (BitVec.ofNat 32 1)) (k0_off5 L (BitVec.ofNat 32 1)) (k0_off6 L (BitVec.ofNat 32 1)) (k0_off7 L (BitVec.ofNat 32 1)) (k0_off8 L (BitVec.ofNat 32 1)) (k0_off9 L (BitVec.ofNat 32 1))
    (k0_off2_inb L 1) (k0_off3_inb L 1) (k0_off4_inb L 1) (k0_off5_inb L 1) (k0_off6_inb L 1) (k0_off7_inb L 1) (k0_off8_inb L 1) (k0_off9_inb L 1)
    (off2_eq L 1) (off3_eq L 1) (off4_eq L 1) (off5_eq L 1) (off6_eq L 1) (off7_eq L 1) (off8_eq L 1) (off9_eq L 1)
  iapply (gather_step d L X Tb rbM lbM hX q₇.right 1 (show 0 < 25 by omega) _ (by decide) _ _ _ _ _ _ _ _ frb _ hfillb) $$ [Htb Hrb Hlb Hsb]
  · isplitl [Htb]; · iexact Htb
    isplitl [Hrb]; · iexact Hrb
    isplitl [Hlb]; · iexact Hlb
    iexact Hsb
  iintro HGb
  sl_exec
  rw [hix]
  clear hfilla hfillb hix
  sl_for (fun j _ => iprop(Transfers.MayWaits (thr d L) (none : HIx 1) O ∗ Inv d L X Tb f₀ q₇.left q₇.right O W j)) $$ [Hix Hmid HO HGa HGb Hwa Hwb]
  · intro k acc
    exact trip_kept d L X Tb hX f₀ q₇.left q₇.right O W 0#32 0#32 0#32 (fun _ => 0#32) k
  · unfold Inv Side Ow
    rw [if_pos (show 0 < 25 by omega), if_pos (show 0 < 25 by omega), show min 0 24 = 0 from rfl, part_empty]
    isplitr; · iexact Hmw
    isplitl [Hix]; · iexact Hix
    isplitr; · rw [pointsTo_empty]; iempintro
    isplitl [Hmid]; · iexact Hmid
    isplitl [HO]
    · iexists _; isplitr
      swap; · iexact HO
      ipureintro; intro p hp
      rcases Finset.mem_insert.mp hp with hp | hp; · exact .inr (hp ▸ rfl)
      exact .inl hp
    isplitl [HGa Hwa]
    · isplitl [HGa]; · iexact HGa
      iexact Hwa
    isplitl [HGb]; · iexact HGb
    iexact Hwb
  iintro %acc ⟨-, HI⟩
  unfold Inv Side
  rw [show Scf.trips k0_t1_loop.lb k0_t1_loop.ub k0_t1_loop.st = 25 from trips_eq, if_neg (Nat.lt_irrefl 25), if_neg (Nat.lt_irrefl 25)]
  icases HI with ⟨Hix, Hdone, -, HO, ⟨Hta, Hla, Hga, HBa⟩, ⟨Htb, Hlb, Hgb, HBb⟩⟩
  sl_exec
  iapply (copy_wait d L X Tb raM 0 24 _ _ _ _ _ O W) $$ [HBa HO]
  · isplitl [HBa]; · iexact HBa
    isplitl [HO]; · iexact HO
    iexact Hmw
  iintro ⟨HBa, HO⟩
  sl_exec
  iapply (copy_wait_last d L X Tb raM hra 0 24 _ _ _ _ _ O W) $$ [HBa HO]
  · isplitl [HBa]; · iexact HBa
    isplitl [HO]; · iexact HO
    iexact Hmw
  iintro ⟨Hma, Hra, Hwa, HO⟩
  sl_exec
  iapply (copy_wait d L X Tb rbM 1 24 _ _ _ _ _ O W) $$ [HBb HO]
  · isplitl [HBb]; · iexact HBb
    isplitl [HO]; · iexact HO
    iexact Hmw
  iintro ⟨HBb, HO⟩
  sl_exec
  iapply (copy_wait_last d L X Tb rbM hrb 1 24 _ _ _ _ _ O W) $$ [HBb HO]
  · isplitl [HBb]; · iexact HBb
    isplitl [HO]; · iexact HO
    iexact Hmw
  iintro ⟨Hmb, Hrb, Hwb, HO⟩
  sl_exec
  sl_step
  isplitl [Hid]; · iexact Hid
  isplitl [Hta Htb]
  · iapply (pointsTo_share (PosShare.mem_left_op_right q₇)).2
    isplitl [Hta]; · iexact Hta
    iexact Htb
  isplitl [Hdone Hma Hmb]
  · iapply (put_blocks d L X Tb 24)
    isplitl [Hdone]; · iexact Hdone
    isplitl [Hma]; · iexact Hma
    iexact Hmb
  isplitl [Hix]; · iexists _; iexact Hix
  isplitl [Hra]; · iexact Hra
  isplitl [Hrb]; · iexact Hrb
  isplitl [Hla]; · iexact Hla
  isplitl [Hlb]; · iexact Hlb
  isplitl [Hga]; · iexact Hga
  isplitl [Hgb]; · iexact Hgb
  isplitl [Hwa]; · iexact Hwa
  isplitl [Hwb]; · iexact Hwb
  isplitl [HsE]; · iexact HsE
  iexact HO

end Cert.KernelIdeal.Gather

end
-- ==== Proof.Dispatch.lean ====
/- The gather call: how the arrays are dealt to the two cores and their tasks, and what each task owes for its share. -/
module

public import proofs.«01_k».proof.Proof.Tile

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch wp_dmaBatch wp_waitBatchO wp_waitBatchLastO)

variable {F : FTy → Type}

local notation "𝕄" => MT nD τ sig (HIx 1) (Elt F) ℕ UU ℕ

local notation "tbM" => (Memref.whole Cert.KernelIdeal.main_v7_scv : Memref Cert.KernelIdeal.sig Kind.scVector Space.hbm Cert.KernelIdeal.S4000x2x128 EltTy.f32)
local notation "midM" => (Memref.whole Cert.KernelIdeal.main_v8_scv : Memref Cert.KernelIdeal.sig Kind.scVector Space.hbm Cert.KernelIdeal.S50x8x4x2x128x128 EltTy.f32)

local notation "idM" => (Memref.whole Cert.KernelIdeal.main_v3_scv : Memref Cert.KernelIdeal.sig Kind.scVector Space.hbm Cert.KernelIdeal.S8x56x128 EltTy.i32)
local notation "ixM" => (Memref.whole Cert.KernelIdeal.cc0_scratch0 : Memref Cert.KernelIdeal.sig Kind.scVector Space.vmem Cert.KernelIdeal.S32x128 EltTy.i32)
local notation "raM" => (Memref.whole Cert.KernelIdeal.cc0_scratch1 : Memref Cert.KernelIdeal.sig Kind.scVector Space.vmem Cert.KernelIdeal.S128x2x128 EltTy.f32)
local notation "rbM" => (Memref.whole Cert.KernelIdeal.cc0_scratch2 : Memref Cert.KernelIdeal.sig Kind.scVector Space.vmem Cert.KernelIdeal.S128x2x128 EltTy.f32)
local notation "laM" => (Memref.whole Cert.KernelIdeal.cc0_scratch3 : Memref Cert.KernelIdeal.sig Kind.scVector Space.vmem Cert.KernelIdeal.S128 EltTy.i32)
local notation "lbM" => (Memref.whole Cert.KernelIdeal.cc0_scratch4 : Memref Cert.KernelIdeal.sig Kind.scVector Space.vmem Cert.KernelIdeal.S128 EltTy.i32)

/-! ## The tasks' parts of the filled array -/

/-- Two tasks' parts do not meet. -/
theorem part_disjoint {c c' : Fin 2} {s s' : Fin 16} (h : c ≠ c' ∨ s ≠ s') :
    Disjoint (part (coords c s) 0 25) (part (coords c' s') 0 25) := by
  rw [Finset.disjoint_left]
  intro y
  have e : ∀ (c : Fin 2) (s : Fin 16), tgOf (coords c s) = s.val / 8 ∧ ctOf (coords c s) = s.val % 8 ∧ cOf (coords c s) = c.val := fun _ _ => ⟨rfl, rfl, rfl⟩
  simp only [part, Finset.mem_filter, Finset.mem_univ, true_and, (e c s).1, (e c s).2.1, (e c s).2.2, (e c' s').1, (e c' s').2.1, (e c' s').2.2]
  have hs := s.isLt
  have hs' := s'.isLt
  rcases h with h | h
  · have := Fin.val_ne_of_ne h; omega
  · have := Fin.val_ne_of_ne h; omega

/-- What the tasks of core `c` write. -/
def corePart (c : Fin 2) : Finset S50x8x4x2x128x128.Idx := (Finset.univ : Finset (Fin 16)).biUnion fun s => part (coords c s) 0 25

/-- The two cores' parts do not meet, -/
theorem corePart_disjoint {c c' : Fin 2} (h : c ≠ c') : Disjoint (corePart c) (corePart c') := by
  unfold corePart
  rw [Finset.disjoint_biUnion_left]
  intro s _
  rw [Finset.disjoint_biUnion_right]
  intro s' _
  exact part_disjoint (Or.inl h)

/-- and cover the array. -/
theorem corePart_cover : (Finset.univ : Finset (Fin 2)).biUnion corePart = Finset.univ := by
  ext y
  have h0 : (y 0).val < 50 := (y 0).isLt
  have h1 : (y 1).val < 8 := (y 1).isLt
  have h2 : (y 2).val < 4 := (y 2).isLt
  simp only [corePart, Finset.mem_biUnion, Finset.mem_univ, true_and, iff_true]
  refine ⟨⟨(y 2).val / 2, by omega⟩, ⟨8 * ((y 0).val / 25) + (y 1).val, by omega⟩, ?_⟩
  simp only [part, Finset.mem_filter, Finset.mem_univ, true_and]
  refine ⟨?_, ?_, ?_, ?_⟩
  · show 25 * ((8 * ((y 0).val / 25) + (y 1).val) / 8) + 0 ≤ (y 0).val; omega
  · show (y 0).val < 25 * ((8 * ((y 0).val / 25) + (y 1).val) / 8) + 25; omega
  · show (y 1).val = (8 * ((y 0).val / 25) + (y 1).val) % 8; omega
  · show (y 2).val / 2 = (y 2).val / 2; rfl

/-! ## What the handshakes carry -/

/-- A core's share of an array that all tasks read. -/
def coreShare (c : Fin 2) : PosShare TreeShare := Transfers.dealOf fullShare Finset.univ c
/-- A task's share of an array that all tasks read. -/
def taskShare (c : Fin 2) (s : Fin 16) : PosShare TreeShare := Transfers.dealOf (coreShare c) Finset.univ s

/-- Where the index array lies. -/
abbrev idLoc (d : Dev nD) : Loc nD τ sig := (SparseCore.T d).loc main_v3
/-- Where the table's parts lie. -/
abbrev tbLoc (d : Dev nD) : Loc nD τ sig := (SparseCore.T d).loc main_v7
/-- Where the array to fill lies. -/
abbrev midLoc (d : Dev nD) : Loc nD τ sig := (SparseCore.T d).loc main_v8

variable (X : Dev nD → S8x56x128.Idx → BitVec 32) (Tb : Dev nD → S4000x2x128.Idx → F .f32) (f₀ : Dev nD → S50x8x4x2x128x128.Idx → F .f32)

/-- A core gets, and brings back, its shares of the indices and of the table and its part of the array to fill. -/
def corePts (d : Dev nD) (c : Fin 2) (f : S50x8x4x2x128x128.Idx → F .f32) : sProp 𝕄 :=
  iprop((idLoc d ↦{coreShare c} (X d : S8x56x128.Idx → BitVec 32)) ∗ (tbLoc d ↦{coreShare c} (Tb d : S4000x2x128.Idx → F .f32)) ∗ (midLoc d ↦[corePart c]{fullShare} f))

/-- And so does a task. -/
def taskPts (d : Dev nD) (c : Fin 2) (s : Fin 16) (f : S50x8x4x2x128x128.Idx → F .f32) : sProp 𝕄 :=
  iprop((idLoc d ↦{taskShare c s} (X d : S8x56x128.Idx → BitVec 32)) ∗ (tbLoc d ↦{taskShare c s} (Tb d : S4000x2x128.Idx → F .f32)) ∗ (midLoc d ↦[part (coords c s) 0 25]{fullShare} f))

/-- A core's holdings may be handed over by a semaphore. -/
instance corePts_storable (d : Dev nD) (c : Fin 2) (f : S50x8x4x2x128x128.Idx → F .f32) : BI.Storable (upEmb : UEmb _ 𝕄) (corePts X Tb d c f) := by
  unfold corePts; infer_instance
/-- So may a task's. -/
instance taskPts_storable (d : Dev nD) (c : Fin 2) (s : Fin 16) (f : S50x8x4x2x128x128.Idx → F .f32) : BI.Storable (upEmb : UEmb _ 𝕄) (taskPts X Tb d c s f) := by
  unfold taskPts; infer_instance

/-- A core's holdings are its tasks'. -/
theorem corePts_tasks (d : Dev nD) (c : Fin 2) (f : S50x8x4x2x128x128.Idx → F .f32) :
    corePts X Tb d c f = bigSep Finset.univ fun s : Fin 16 => taskPts X Tb d c s f := by
  unfold corePts taskPts
  rw [bigSep_sep', bigSep_sep', Transfers.pointsTo_deal (Finset.univ : Finset (Fin 16)) ⟨0, Finset.mem_univ _⟩ (coreShare c),
    Transfers.pointsTo_deal (Finset.univ : Finset (Fin 16)) ⟨0, Finset.mem_univ _⟩ (coreShare c)]
  unfold corePart
  rw [pointsTo_biUnion Finset.univ (ℓ := midLoc d) (fun s : Fin 16 => part (coords c s) 0 25) fun _ _ _ _ h => part_disjoint (Or.inr h)]
  rfl

/-- The whole arrays are the two cores' holdings. -/
theorem whole_cores (d : Dev nD) (f : S50x8x4x2x128x128.Idx → F .f32) :
    (iprop((idLoc d ↦{fullShare} (X d : S8x56x128.Idx → BitVec 32)) ∗ (tbLoc d ↦{fullShare} (Tb d : S4000x2x128.Idx → F .f32)) ∗ (midLoc d ↦{fullShare} f)) : sProp 𝕄)
      = bigSep Finset.univ fun c : Fin 2 => corePts X Tb d c f := by
  unfold corePts
  have hm : (midLoc d ↦{fullShare} f : sProp 𝕄) = bigSep Finset.univ fun c : Fin 2 => midLoc d ↦[corePart c]{fullShare} f := by
    rw [← pointsTo_biUnion Finset.univ (ℓ := midLoc d) corePart fun _ _ _ _ h => corePart_disjoint h, corePart_cover]
  rw [bigSep_sep', bigSep_sep', Transfers.pointsTo_deal (Finset.univ : Finset (Fin 2)) ⟨0, Finset.mem_univ _⟩ fullShare,
    Transfers.pointsTo_deal (Finset.univ : Finset (Fin 2)) ⟨0, Finset.mem_univ _⟩ fullShare, hm]
  rfl

/-- The call's hand-overs: every core and task is given its holdings with the array as it was and brings them back with it filled. -/
def P : (K (F := F)).Pay (nD := nD) (Val := Elt F) (Name := ℕ) (U := UU) where
  st := fun q d c => match q with | 0 => corePts X Tb d c (f₀ d)
  dn := fun q d c => match q with | 0 => corePts X Tb d c (midV (X d) (Tb d))
  go := fun q d c s => match q with | 0 => taskPts X Tb d c s (f₀ d)
  td := fun q d c s => match q with | 0 => taskPts X Tb d c s (midV (X d) (Tb d))
  x := fun _ _ => iprop(emp)

/-- So may all of the call's hand-overs. -/
instance P_storable : (P X Tb f₀).IsStorable where
  st q d c := match q with | 0 => corePts_storable X Tb d c (f₀ d)
  dn q d c := match q with | 0 => corePts_storable X Tb d c (midV (X d) (Tb d))
  go q d c s := match q with | 0 => taskPts_storable X Tb d c s (f₀ d)
  td q d c s := match q with | 0 => taskPts_storable X Tb d c s (midV (X d) (Tb d))

/-- The call's holdings split into its tasks' and come back from them. -/
theorem vecSplit : (K (F := F)).VecSplit' (P X Tb f₀) 0 := by
  intro d c
  show corePts X Tb d c (f₀ d) ⊢ |={Set.univ}=> iprop((bigSep Finset.univ fun s : Fin 16 => taskPts X Tb d c s (f₀ d))
      ∗ ((bigSep Finset.univ fun s : Fin 16 => taskPts X Tb d c s (midV (X d) (Tb d))) -∗ corePts X Tb d c (midV (X d) (Tb d))))
  rw [corePts_tasks, corePts_tasks]
  iintro H; imodintro
  isplitl [H]; · iexact H
  iintro H; iexact H

/-! ## A task's own buffers and semaphores -/

/-- Five members of a family taken out of it. -/
theorem take_five {ι : Type} [DecidableEq ι] {s : Finset ι} {a b c e g : ι} (Φ : ι → sProp 𝕄) (hm : ∀ x ∈ [a, b, c, e, g], x ∈ s) (hn : [a, b, c, e, g].Nodup) :
    bigSep s Φ = iprop(Φ a ∗ Φ b ∗ Φ c ∗ Φ e ∗ Φ g ∗ bigSep (((((s.erase a).erase b).erase c).erase e).erase g) Φ) := by
  simp only [List.nodup_cons, List.mem_cons, List.not_mem_nil, or_false, not_or, not_false_eq_true, List.nodup_nil, and_true] at hn
  simp only [List.mem_cons, List.not_mem_nil, or_false, forall_eq_or_imp, forall_eq] at hm
  obtain ⟨⟨ab, ac, ae, ag⟩, ⟨bc, be, bg⟩, ⟨ce, cg⟩, eg⟩ := hn
  obtain ⟨ma, mb, mc, me, mg⟩ := hm
  rw [SparseCore.bigSep_erase' ma, SparseCore.bigSep_erase' (i := b) (by simp [mb, Ne.symm ab]),
    SparseCore.bigSep_erase' (i := c) (by simp [mc, Ne.symm ac, Ne.symm bc]),
    SparseCore.bigSep_erase' (i := e) (by simp [me, Ne.symm ae, Ne.symm be, Ne.symm ce]),
    SparseCore.bigSep_erase' (i := g) (by simp [mg, Ne.symm ag, Ne.symm bg, Ne.symm cg, Ne.symm eg])]

/-- A task's five scratch buffers are among its own, -/
theorem ownBufs_V (d : Dev nD) (L : grid0.Coords) : ∃ R : sProp 𝕄, (SparseCore.Cfg.ownBufs (thr d L) : sProp 𝕄)
      = iprop((∃ f, (ixM).view.loc (thr d L) ↦{fullShare} f) ∗ (∃ f, (raM).view.loc (thr d L) ↦{fullShare} f) ∗ (∃ f, (rbM).view.loc (thr d L) ↦{fullShare} f)
          ∗ (∃ f, (laM).view.loc (thr d L) ↦{fullShare} f) ∗ (∃ f, (lbM).view.loc (thr d L) ↦{fullShare} f) ∗ R) :=
  ⟨_, take_five (fun b : DevRef τ sig => iprop(∃ f, ((d, b) : Loc nD τ sig) ↦{fullShare} f))
    (a := (thr d L).2.devRef cc0_scratch0) (b := (thr d L).2.devRef cc0_scratch1) (c := (thr d L).2.devRef cc0_scratch2)
    (e := (thr d L).2.devRef cc0_scratch3) (g := (thr d L).2.devRef cc0_scratch4)
    (by
      simp only [List.mem_cons, List.not_mem_nil, or_false, forall_eq_or_imp, forall_eq]
      refine ⟨?_, ?_, ?_, ?_, ?_⟩ <;> exact SparseCore.Cfg.mem_ownRefs_of_owner rfl)
    (List.Nodup.map (Proc.devRef_injective _) (l := [cc0_scratch0, cc0_scratch1, cc0_scratch2, cc0_scratch3, cc0_scratch4]) (by decide))⟩

/-- A subcore's semaphores are told apart by their names, -/
theorem cells_nodup (t : Thread nD τ) : [((t, .dma cc0_scratch5.sem) : GSem nD τ sig), (t, .dma cc0_scratch6.sem), (t, .dma cc0_scratch7.sem), (t, .dma cc0_scratch8.sem), (t, .dma cc0_scoped0.sem)].Nodup := by
  have h : ([.dma cc0_scratch5.sem, .dma cc0_scratch6.sem, .dma cc0_scratch7.sem, .dma cc0_scratch8.sem, .dma cc0_scoped0.sem] : List (SemLoc sig)).Nodup := by decide
  exact h.map (f := fun s : SemLoc sig => ((t, s) : GSem nD τ sig)) fun _ _ e => (Prod.mk.inj e).2

/-- and these five are a task's own. -/
theorem cells_own (d : Dev nD) (L : grid0.Coords) : ∀ g ∈ [((thr d L, .dma cc0_scratch5.sem) : GSem nD τ sig), (thr d L, .dma cc0_scratch6.sem), (thr d L, .dma cc0_scratch7.sem), (thr d L, .dma cc0_scratch8.sem), (thr d L, .dma cc0_scoped0.sem)],
    g ∈ SparseCore.Cfg.ownCells (thr d L) := by
  have h : ∀ s ∈ ([.dma cc0_scratch5.sem, .dma cc0_scratch6.sem, .dma cc0_scratch7.sem, .dma cc0_scratch8.sem, .dma cc0_scoped0.sem] : List (SemLoc sig)), s.isScoped .scVector = true := by decide
  intro g hg
  have h1 : g.1 = thr d L := by
    simp only [List.mem_cons, List.not_mem_nil, or_false] at hg
    rcases hg with rfl | rfl | rfl | rfl | rfl <;> rfl
  have h2 : g.2 ∈ ([.dma cc0_scratch5.sem, .dma cc0_scratch6.sem, .dma cc0_scratch7.sem, .dma cc0_scratch8.sem, .dma cc0_scoped0.sem] : List (SemLoc sig)) := by
    simp only [List.mem_cons, List.not_mem_nil, or_false] at hg ⊢
    rcases hg with rfl | rfl | rfl | rfl | rfl <;> simp
  refine SparseCore.Cfg.mem_ownCells.mpr ⟨h1, ?_⟩
  show g.2.isScoped g.1.2.kind = true
  rw [h1]
  exact h _ h2

/-- So they can be taken out of what a task holds. -/
theorem ownSems0_V (d : Dev nD) (L : grid0.Coords) : ∃ R : sProp 𝕄, (SparseCore.Cfg.ownSems0 (thr d L) : sProp 𝕄)
      = iprop(semVal (thr d L, .dma cc0_scratch5.sem) 0 ∗ semVal (thr d L, .dma cc0_scratch6.sem) 0 ∗ semVal (thr d L, .dma cc0_scratch7.sem) 0
          ∗ semVal (thr d L, .dma cc0_scratch8.sem) 0 ∗ semVal (thr d L, .dma cc0_scoped0.sem) 0 ∗ R) :=
  ⟨_, take_five (fun g : GSem nD τ sig => semVal g 0) (cells_own d L) (cells_nodup _)⟩

/-! ## The obligation -/

variable [FloatOps F]

/-- The task on its holdings and all that its subcore owns. -/
theorem task_run (d : Dev nD) (c : Fin 2) (s : Fin 16) (hX : InRange (X d)) (O : CellTallies nD τ sig (HIx 1)) (W : Waits sig (HIx 1)) (hO : ∀ g, O g none = 0) :
    (iprop(levAts (K (F := F)).L (K (F := F)).lev ∗ emp ∗ taskPts X Tb d c s (f₀ d)
        ∗ scopedBufs (thr d (coords c s)) ∗ scopedSems0 (thr d (coords c s)) ∗ owes (thr d (coords c s)) O W) : sProp 𝕄)
      ⊢ wp frame (wpE (defs₀ (F := F)) 𝒱₀ (thr d (coords c s)) none) Set.univ
          (cc0_gather (coords c s) idM (Memref.isWhole_whole _) tbM (Memref.isWhole_whole _) midM (Memref.isWhole_whole _)
            ixM (Memref.isWhole_whole _) raM (Memref.isWhole_whole _) rbM (Memref.isWhole_whole _) laM (Memref.isWhole_whole _) lbM (Memref.isWhole_whole _)
            cc0_scratch5 cc0_scratch6 cc0_scratch7 cc0_scratch8 cc0_scoped0)
          fun _ => iprop(taskPts X Tb d c s (midV (X d) (Tb d))
            ∗ scopedBufs (thr d (coords c s)) ∗ scopedSems0 (thr d (coords c s))
            ∗ ∃ W', ⌜∀ p ∈ W', p ∈ W ∨ p.2 = none ∨ p.2 = some (0 : Fin 1)⌝ ∗ owes (thr d (coords c s)) O W') := by
  obtain ⟨Rb, hb⟩ := ownBufs_V (F := F) d (coords c s)
  obtain ⟨Rs, hs⟩ := ownSems0_V (F := F) d (coords c s)
  unfold thr at hb hs ⊢
  rw [(K (F := F)).scopedBufs_V facts d _ _, SparseCore.Cfg.scopedSems0_V (Val := Elt F) d _ _, hb, hs]
  unfold taskPts
  iintro ⟨#Hlv, -, ⟨Hi, Ht, Hm⟩, ⟨Hx, Hra, Hrb, Hla, Hlb, HRb⟩, ⟨H5, H6, H7, H8, HE, HRs⟩, HO⟩
  ihave Hmw := (show levAts (K (F := F)).L (K (F := F)).lev ⊢ Transfers.MayWaits (thr d (coords c s)) (none : HIx 1) O from
    (K (F := F)).mayWaits_none (thr := thr d (coords c s)) hO) $$ Hlv
  iapply (wp_wand_r frame (wpE (defs₀ (F := F)) 𝒱₀ (thr d (coords c s)) none) Set.univ)
  isplitl [Hmw Hi Ht Hm Hx Hra Hrb Hla Hlb H5 H6 H7 H8 HE HO]
  · iapply (tile_body d (coords c s) (X d) (Tb d) (f₀ d) hX (taskShare c s) (taskShare c s) O W)
    isplitl [Hmw]; · iexact Hmw
    isplitl [Hi]; · iexact Hi
    isplitl [Ht]; · iexact Ht
    isplitl [Hm]; · iexact Hm
    isplitl [Hx]; · iexact Hx
    isplitl [Hra]; · iexact Hra
    isplitl [Hrb]; · iexact Hrb
    isplitl [Hla]; · iexact Hla
    isplitl [Hlb]; · iexact Hlb
    isplitl [H5]; · iexact H5
    isplitl [H6]; · iexact H6
    isplitl [H7]; · iexact H7
    isplitl [H8]; · iexact H8
    isplitl [HE]; · iexact HE
    iexact HO
  iintro %_ ⟨Hi, Ht, Hm, Hx, Hra, Hrb, Hla, Hlb, H5, H6, H7, H8, HE, HOw⟩
  unfold Ow
  icases HOw with ⟨%W', %hW', HO⟩
  isplitl [Hi Ht Hm]
  · isplitl [Hi]; · iexact Hi
    isplitl [Ht]; · iexact Ht
    iexact Hm
  isplitl [Hx Hra Hrb Hla Hlb HRb]
  · isplitl [Hx]; · iexact Hx
    isplitl [Hra]; · iexact Hra
    isplitl [Hrb]; · iexact Hrb
    isplitl [Hla]; · iexact Hla
    isplitl [Hlb]; · iexact Hlb
    iexact HRb
  isplitl [H5 H6 H7 H8 HE HRs]
  · isplitl [H5]; · iexact H5
    isplitl [H6]; · iexact H6
    isplitl [H7]; · iexact H7
    isplitl [H8]; · iexact H8
    isplitl [HE]; · iexact HE
    iexact HRs
  iexists W'; isplitr
  · ipureintro; exact fun p hp => (hW' p hp).imp_right Or.inl
  · iexact HO

/-- A vector subcore's dispatch runs the gather kernel at the subcore's coordinates. -/
theorem defs₀_vector (c : Fin τ.nSC) (s : Fin τ.nSub) :
    defs₀ (F := F) (.scVector c s) 0 ()
      = SparseCore.onTile hcore0 hsub0 (fun c s => cc0_gather (coords c s)
          idM (Memref.isWhole_whole _) tbM (Memref.isWhole_whole _) midM (Memref.isWhole_whole _)
          ixM (Memref.isWhole_whole _) raM (Memref.isWhole_whole _) rbM (Memref.isWhole_whole _) laM (Memref.isWhole_whole _) lbM (Memref.isWhole_whole _)
          cc0_scratch5 cc0_scratch6 cc0_scratch7 cc0_scratch8 cc0_scoped0) ⟨⟩ c s := rfl

set_option maxRecDepth 16384 in
/-- What the launch asks of the kernel: each task runs safely and brings back what the hand-over says. -/
theorem tileObl (hX : ∀ d, InRange (X d)) : (K (F := F)).TileObl (D (F := F)) 𝒱 (P X Tb f₀) v₀ 0 := by
  intro d c i O W hO _ _
  simp only [show (P X Tb f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_run X Tb f₀ d ⟨_, hci.1⟩ ⟨_, hci.2⟩ (hX d) O W hO

end Cert.KernelIdeal.Gather

end
-- ==== Proof.Region.lean ====
/- The transposing pallas_call as a region of the TensorCore's program: what one grid point leaves in the output's
   staging buffer, the pipeline's proof data, the body obligation and the region over its two arrays. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionArrays
public import Idealize.ShloMosaic.Lib.Pipeline.Value
public import Idealize.ShloMosaic.Lib.Pipeline.ValueKit
public import Idealize.ShloMosaic.Lib.VecWindow
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b))

/-- The block of the input array that grid point `t` works on, read off the contents the region is entered with. -/
def blockAt (c : Dev nD) (t : Fin cfg1.N) : Vec F S1x1x4x2x128x128 .f32 :=
  ((cfg1.win 0).blk t).view.read (Elt F) (V c (Pipeline.arrRef spec1 0))

/-- The body on whole staging memrefs: the input is left as it was, the output holds the transposed block whatever it
    held before. -/
theorem body_run (c : Dev nD) (i : grid1.Coords) (src : Memref sig .tc .vmem S1x1x4x2x128x128 .f32) (hsrc : src.IsWhole)
    (out : Memref sig .tc .vmem S1x1000x128 .f32) (hout : out.IsWhole) (x : Vec F S1x1x4x2x128x128 .f32) (E : Set ℕ)
    (K : PUnit → sProp 𝕄) :
    iprop(owns (c : Thread nD τ) src fullShare x ∗ (∃ d, owns (c : Thread nD τ) out fullShare d)
        ∗ (iprop(owns (c : Thread nD τ) src fullShare x ∗ owns (c : Thread nD τ) out fullShare (k1_pay1 x)) -∗ K ⟨⟩))
      ⊢ wp frame (wpE (defs₀ (F := F)) 𝒱₀ c none) E (cc1__tc_transpose_body i src hsrc out hout) K := by
  simp only [cc1__tc_transpose_body_eq_skeleton]; unfold cc1__tc_transpose_body_skel owns
  iintro ⟨⟨%f, %hf, Hs⟩, ⟨%d, %g, -, Ho⟩, Hk⟩
  obtain rfl := hsrc.eq_unread hf
  sl_exec
  sl_step
  iapply Hk
  isplitl [Hs]
  · iexists _; isplitr; · ipureintro; exact hsrc.read_unread _
    iexact Hs
  iexists _; isplitr
  swap; · iexact Ho
  ipureintro
  rw [View.read_writes_full, View.readAt_full, hf]

/-- The pipeline's proof data: the arrays as the region finds them; after each point the input's buffer at its block,
    the output's at the block transposed; the invariant the generator register alone; nothing owed. -/
def dat (c : Dev nD) : Dat τ (Elt F) Ix ℕ U Lvl cfg1 c where
  A w := V c (Pipeline.arrRef spec1 w)
  after w t := match w with
    | ⟨0, _⟩ => blockAt V c t
    | ⟨1, _⟩ => k1_pay1 (blockAt V c t)
  Φ _ := iprop(Pipeline.scopedRest spec1 c ∗ ∃ r, prngReg c r)
  q _ := fullShare
  owed _ := 0

local notation "𝕕" => dat (Ix := Ix) (U := U) (Lvl := Lvl) V

/-- The body leaves the input's buffer as it found it. -/
theorem after_in (c : Dev nD) (t : Fin cfg1.N) : (𝕕 c).after 0 t = blockAt V c t := by dsimp only [dat]
/-- It leaves the block transposed in the output's. -/
theorem after_out (c : Dev nD) (t : Fin cfg1.N) : (𝕕 c).after 1 t = k1_pay1 (blockAt V c t) := by dsimp only [dat]

/-- The body finds the input's block in its staging buffer at every point. -/
theorem before_in (c : Dev nD) (t : Fin cfg1.N) (d) : (𝕕 c).before 0 t d = blockAt V c t :=
  ((𝕕 c).before_in_eq_fetched 0 rfl (fun _ => rfl) (fun _ _ _ => rfl)
    (fun t => by rw [after_in]; unfold Dat.blockOf blockAt; dsimp only [dat]) t d).trans
    (by unfold Dat.fetched Dat.blockOf blockAt; dsimp only [dat]; rfl)

variable (ι : Ix)

/-- The library's body obligation at every point. -/
theorem body_obligation (c : Dev nD) : BodyObligation (𝕕 c) (defs₀ (F := F)) 𝒱₀ ι Set.univ := fun t => by
  rw [bigSep_W1, bigSep_W1, show defs₀ (F := F) .tc cfg1.body (cfg1.bodyArgs t (cfg1.slots t)) = bodyAt1 t from rfl]
  refine triple_restated (P := iprop((𝕕 c).Φ t.castSucc ∗ (𝕕 c).owesAt ι t.castSucc
      ∗ (∃ d, owns (c : Thread nD τ) (st1_0 t) fullShare ((𝕕 c).before 0 t d))
      ∗ (∃ d, owns (c : Thread nD τ) (st1_1 t) fullShare ((𝕕 c).before 1 t d))))
    (Q := fun _ => iprop((𝕕 c).Φ t.succ ∗ (𝕕 c).owesAt ι t.succ
      ∗ owns (c : Thread nD τ) (st1_0 t) fullShare ((𝕕 c).after 0 t)
      ∗ owns (c : Thread nD τ) (st1_1 t) fullShare ((𝕕 c).after 1 t))) ?_ rfl .rfl fun _ => .rfl
  simp only [before_in, after_in, after_out]
  rw [show (𝕕 c).Φ t.succ = (𝕕 c).Φ t.castSucc from rfl, show (𝕕 c).owesAt ι t.succ = (𝕕 c).owesAt ι t.castSucc from rfl]
  iintro ⟨HΦ, Ho, ⟨%d, Hi⟩, ⟨%e, Hj⟩⟩
  iapply (body_run 𝒱₀ c (grid1.coords t) _ _ _ _ (blockAt V c t) Set.univ _)
  isplitl [Hi]; · iexact Hi
  isplitl [Hj]; · iexists _; iexact Hj
  iintro ⟨Hi, Hj⟩
  isplitl [HΦ]; · iexact HΦ
  isplitl [Ho]; · iexact Ho
  isplitl [Hi]; · iexact Hi
  iexact Hj

variable (adm : (p : Fin 1) → (pcfgs (F := F) p).Adm)
variable (L : GSem nD τ sig → Finset Ix) (lv : GSem nD τ sig → Ix → Lvl)

/-- The one pipeline's proof data, as the library's family over pipelines. -/
def pdats : (p : Fin 1) → (c : Dev nD) → Dat τ (Elt F) Ix ℕ U Lvl (Pipeline.pin (pcfgs (F := F)) adm p) c
  | ⟨0, _⟩ => fun c => dat V c

/-- The region over its two arrays: entered from their contents `V`, left at what the proof data leave. -/
def seg (b : Lvl) (hcut : Pipeline.LevelCut (pcfgs (F := F)) adm ι L lv 0 (0 : Dev nD → CellTallies nD τ sig Ix) fun _ => b)
    (R : Dev nD → sProp 𝕄) :
    Pipeline.RegionSeg (pcfgs (F := F)) adm (pdats (Ix := Ix) (U := U) (Lvl := Lvl) V adm) ι defs₀ 𝒱₀ L lv 0 :=
  Pipeline.RegionSeg.ofArrays (pcfgs (F := F)) adm _ ι defs₀ 𝒱₀ L lv 0 0 (fun c => iprop(∃ r, prngReg c r))
    (fun c => iprop(∃ r, prngReg c r)) launch1.toP.to₀ rfl (fun c => (body_obligation 𝒱₀ V ι c).loose) (fun _ _ => rfl)
    (fun _ => rfl) (fun _ => .rfl) (fun _ => .rfl) (fun _ => b) hcut R

end Cert.KernelIdeal.Region

end
-- ==== Proof.Host.lean ====
/- @main of the kernel program on the TensorCore: its host operations, the gather call and the transposing call in turn, and what
   every buffer holds at the end. -/
module

public import proofs.«01_k».proof.Proof.Dispatch
public import proofs.«01_k».proof.Proof.Region

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch wp_dmaBatch wp_waitBatchO wp_waitBatchLastO)

variable {F : FTy → Type}

local notation "𝕄" => MT nD τ sig (HIx 1) (Elt F) ℕ UU ℕ

variable [FloatOps F]

/-! ## The host's operations before the call -/

/-- The operations before the call: the indices turned, padded to whole tiles and cut into columns of 128; the table padded to whole
    lanes and cut into four parts of two halves. -/
abbrev ops : List (HloOp τ sig (Elt F)) :=
  [ StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
    StableHlo.nullary main_c (constantI S_ 32 0#32),
    StableHlo.TRef.unary (StableHlo.TRef.of (T := ⟨S_, .i32⟩) main_c) main_call0.v0 id,
    StableHlo.TRef.binary (StableHlo.TRef.of (T := ⟨S50x1024, .i32⟩) main_v0) main_call0.v0 main_call0.v1 (fun x v => pad S56x1024 ![0, 0] ![6, 0] ![0, 0] x v pads_S50x1024_S56x1024_060_000 h_S_),
    StableHlo.reshape main_v1 main_v2 (rfl : (.i32 : EltTy) = .i32) shapeCasts_S56x1024_S56x8x128,
    StableHlo.unary main_v2 main_v3 ((transpose S8x56x128 [1, 0, 2] · transposes_S56x8x128_S8x56x128_1_0_2) : (⟨S56x8x128, .i32⟩ : BufTy).Contents (Elt F) → (⟨S8x56x128, .i32⟩ : BufTy).Contents (Elt F)),
    StableHlo.nullary main_c_0 (constantI S_ 32 0#32),
    StableHlo.TRef.unary (StableHlo.TRef.of (T := ⟨S_, .i32⟩) main_c_0) main_call1.v0 (sitofp .f32),
    StableHlo.TRef.binary (StableHlo.TRef.of (T := ⟨S1000x1000, .f32⟩) main_arg1) main_call1.v0 main_call1.v1 (fun x v => pad S1000x1024 ![0, 0] ![0, 24] ![0, 0] x v pads_S1000x1000_S1000x1024_000_0240 h_S_),
    StableHlo.reshape main_v4 main_v5 (rfl : (.f32 : EltTy) = .f32) shapeCasts_S1000x1024_S1000x4x2x128,
    StableHlo.unary main_v5 main_v6 ((transpose S4x1000x2x128 [1, 0, 2, 3] · transposes_S1000x4x2x128_S4x1000x2x128_1_0_2_3) : (⟨S1000x4x2x128, .f32⟩ : BufTy).Contents (Elt F) → (⟨S4x1000x2x128, .f32⟩ : BufTy).Contents (Elt F)),
    StableHlo.reshape main_v6 main_v7 (rfl : (.f32 : EltTy) = .f32) shapeCasts_S4x1000x2x128_S4000x2x128 ]

/-- The one after it: the batch brought to the front. -/
abbrev opLast : HloOp τ sig (Elt F) :=
  StableHlo.unary main_v9 main_v10 ((transpose S1024x50x1000 [2, 0, 1] · transposes_S50x1000x1024_S1024x50x1000_2_0_1) : (⟨S50x1000x1024, .f32⟩ : BufTy).Contents (Elt F) → (⟨S1024x50x1000, .f32⟩ : BufTy).Contents (Elt F))

/-- @main is those, the SparseCore's call, the TensorCore's, and the last. -/
theorem main_eq (d : Dev nD) : main (F := F) d = (StableHlo.seq (ops (F := F)) >>= fun _ => (K (F := F)).run d 0 >>= fun _ =>
    Prog.lift (.customCall (SparseCore.inner (Pipeline.entry 0)) ()) >>= fun _ => hlo rfl (opLast (F := F)) fun _ => .ret ⟨⟩) := by
  rw [StableHlo.seq_bind_seqK]; rfl

/-- The host's operations touch only buffers that the TensorCore holds unscoped. -/
theorem ops_sub : ∀ op ∈ ops (F := F), op.bufs ⊆ Pipeline.ucRefs τ sig := by
  have h : (ops (F := F)).Forall fun op => op.bufs ⊆ StableHlo.tcRefs τ sig :=
    ⟨StableHlo.unary_bufs_sub .., StableHlo.nullary_bufs_sub .., StableHlo.unary_bufs_sub .., StableHlo.binary_bufs_sub .., StableHlo.reshape_bufs_sub ..,
      StableHlo.unary_bufs_sub .., StableHlo.nullary_bufs_sub .., StableHlo.unary_bufs_sub .., StableHlo.binary_bufs_sub .., StableHlo.reshape_bufs_sub ..,
      StableHlo.unary_bufs_sub .., StableHlo.reshape_bufs_sub ..⟩
  exact fun op ho => Pipeline.sub_ucRefs op (List.forall_iff_forall_mem.mp h op ho)

/-- None of them allocates. -/
theorem ops_fresh : ∀ op ∈ ops (F := F), op.fresh = ∅ := List.forall_iff_forall_mem.mp
  (show (ops (F := F)).Forall fun op => op.fresh = ∅ from ⟨rfl, rfl, rfl, rfl, rfl, rfl, rfl, rfl, rfl, rfl, rfl, rfl⟩)

/-! ## The buffers' contents along the run -/

/-- The index argument. -/
abbrev a0' : DevRef τ sig := Proc.devRef .tc main_arg0
/-- The table argument. -/
abbrev a1' : DevRef τ sig := Proc.devRef .tc main_arg1
/-- The index array that the gather call takes. -/
abbrev v3' : DevRef τ sig := Proc.devRef .tc main_v3
/-- The table's parts that it takes. -/
abbrev v7' : DevRef τ sig := Proc.devRef .tc main_v7
/-- The array that it fills. -/
abbrev v8' : DevRef τ sig := Proc.devRef .tc main_v8
/-- The transposing call's output. -/
abbrev v9' : DevRef τ sig := Proc.devRef .tc main_v9
/-- The result. -/
abbrev v10' : DevRef τ sig := Proc.devRef .tc main_v10

variable (m : (ℓ : Loc nD τ sig) → Buf (Elt F) ℓ) (ρ : Dev nD → PrngReg)

/-- The buffers at the launch. -/
def V0 (d : Dev nD) : Valuation τ sig (Elt F) := fun b => m (d, b)
/-- After the host's operations. -/
def V1 (d : Dev nD) : Valuation τ sig (Elt F) := StableHlo.after (ops (F := F)) (V0 m d)
/-- The index array as the gather call finds it. -/
def idA (d : Dev nD) : S8x56x128.Idx → BitVec 32 := V1 m d v3'
/-- The table's parts as it finds them. -/
def tbA (d : Dev nD) : S4000x2x128.Idx → F .f32 := V1 m d v7'
/-- What the array to fill held before. -/
def old8 (d : Dev nD) : S50x8x4x2x128x128.Idx → F .f32 := V1 m d v8'
/-- The buffers after the gather call: that array filled. -/
def V2 (d : Dev nD) : Valuation τ sig (Elt F) := Function.update (V1 m d) v8' (midV (idA m d) (tbA m d) : S50x8x4x2x128x128.Idx → F .f32)
/-- The same, by the TensorCore's own names. -/
def V2r (d : Dev nD) (b : Ref sig .tc) : Buf (Elt F) ((d.tc : Thread nD τ).loc b) := V2 m d (Proc.devRef .tc b)
/-- The transposing call's output, as its region leaves it. -/
def outA (d : Dev nD) : S50x1000x1024.Idx → F .f32 := (Region.dat (Ix := HIx 1) (U := UU) (Lvl := ℕ) (V2r m) d).arrAt 1 cfg1.N
/-- The buffers after the transposing call. -/
def V3 (d : Dev nD) : Valuation τ sig (Elt F) := Function.update (V2 m d) v9' (outA m d)
/-- At the end. -/
def V4 (d : Dev nD) : Valuation τ sig (Elt F) := (opLast (F := F)).result (V3 m d)

/-- The gather call's three arrays, held at some contents. -/
abbrev S3 : Finset (DevRef τ sig) := {v3', v7', v8'}

/-- Holding the three arrays is holding each. -/
theorem held_S3 (d : Dev nD) (W : Valuation τ sig (Elt F)) :
    (StableHlo.held (SparseCore.T d) S3 W : sProp 𝕄) = iprop((idLoc d ↦{fullShare} W v3') ∗ (tbLoc d ↦{fullShare} W v7') ∗ (midLoc d ↦{fullShare} W v8')) := by
  unfold StableHlo.held S3
  rw [SparseCore.bigSep_insert' (by decide), SparseCore.bigSep_insert' (by decide), bigSep_singleton]

/-- They are among the buffers that the TensorCore holds. -/
theorem S3_sub : S3 ⊆ Pipeline.ucRefs τ sig := by decide

/-- What is left for the claim: the arguments and the result. -/
abbrev SF : Finset (DevRef τ sig) := {a0', a1', v10'}

/-- Holding the arguments and the result is holding each. -/
theorem held_SF (d : Dev nD) (W : Valuation τ sig (Elt F)) :
    (StableHlo.held (SparseCore.T d) SF W : sProp 𝕄) = iprop(((SparseCore.T d).loc main_arg0 ↦{fullShare} W a0') ∗ ((SparseCore.T d).loc main_arg1 ↦{fullShare} W a1') ∗ ((SparseCore.T d).loc main_v10 ↦{fullShare} W v10')) := by
  unfold StableHlo.held SF
  rw [SparseCore.bigSep_insert' (by decide), SparseCore.bigSep_insert' (by decide), bigSep_singleton]

/-- They are among those buffers too. -/
theorem SF_sub : SF ⊆ Pipeline.ucRefs τ sig := by decide

/-- The hand-overs of the call in this program. -/
abbrev PM : (K (F := F)).Pay (nD := nD) (Val := Elt F) (Name := ℕ) (U := UU) := P (idA m) (tbA m) (old8 m)

/-- What the gather call takes, and what it hands back. -/
theorem take_call (d : Dev nD) : (StableHlo.held (SparseCore.T d) (Pipeline.ucRefs τ sig) (V1 m d) : sProp 𝕄)
    = iprop((bigSep Finset.univ fun c : Fin ((K (F := F)).nCore 0) => (PM m).st 0 d c) ∗ StableHlo.held (SparseCore.T d) (Pipeline.ucRefs τ sig \ S3) (V1 m d)) := by
  rw [StableHlo.held_sub_split (SparseCore.T d) S3_sub, held_S3]
  exact congrArg (fun A => iprop(A ∗ StableHlo.held (SparseCore.T d) (Pipeline.ucRefs τ sig \ S3) (V1 m d))) (whole_cores (idA m) (tbA m) d (old8 m d))

/-- What the call hands back, with the rest, is the buffers with the array filled. -/
theorem give_call (d : Dev nD) : (iprop((bigSep Finset.univ fun c : Fin ((K (F := F)).nCore 0) => (PM m).dn 0 d c) ∗ StableHlo.held (SparseCore.T d) (Pipeline.ucRefs τ sig \ S3) (V1 m d)) : sProp 𝕄)
    = StableHlo.held (SparseCore.T d) (Pipeline.ucRefs τ sig) (V2 m d) := by
  rw [StableHlo.held_sub_split (SparseCore.T d) S3_sub (V2 m d), held_S3,
    StableHlo.held_congr (SparseCore.T d) (S := Pipeline.ucRefs τ sig \ S3) (V := V2 m d) (V' := V1 m d) fun b hb =>
      Function.update_of_ne (fun e => (Finset.mem_sdiff.mp hb).2 (by rw [e]; decide)) _ _]
  unfold V2
  rw [Function.update_of_ne (show v3' ≠ v8' by decide), Function.update_of_ne (show v7' ≠ v8' by decide), Function.update_self]
  exact congrArg (fun A => iprop(A ∗ StableHlo.held (SparseCore.T d) (Pipeline.ucRefs τ sig \ S3) (V1 m d))) (whole_cores (idA m) (tbA m) d (midV (idA m d) (tbA m d))).symm

/-! ## The transposing call -/

/-- The transposing call takes no prefetched table. -/
abbrev adm : (p : Fin 1) → (pcfgs (F := F) p).Adm := fun p => (cfgs p).toPCfg_adm

/-- The region's proof data, at what the buffers hold when it is entered. -/
abbrev RD := Region.pdats (Ix := HIx 1) (U := UU) (Lvl := ℕ) (V2r m) (adm (F := F))

/-- The TensorCore owes nothing then, so its waits on the staging copies are free. -/
theorem cut : Pipeline.LevelCut (pcfgs (F := F)) adm (none : HIx 1) (K (F := F)).L (K (F := F)).lev 0 (0 : Dev nD → CellTallies nD τ sig (HIx 1)) fun _ => 0 where
  hι _ _ _ := Finset.mem_univ _
  hιb _ _ _ := le_of_eq rfl
  hD _ g i h := absurd h (Nat.lt_irrefl 0)

/-- The transposing call leaves the gather's output alone. -/
theorem V3_v8 (d : Dev nD) : V3 m d v8' = V2 m d v8' := Function.update_of_ne (by decide) _ _

/-- The region, entered from the buffers at `V2` and left at `V3`. -/
def segM : Pipeline.RegionSeg (pcfgs (F := F)) adm (RD m) (none : HIx 1) defs₀ 𝒱₀ (K (F := F)).L (K (F := F)).lev 0 :=
  Pipeline.RegionSeg.ofHeld (pcfgs (F := F)) adm _ none defs₀ 𝒱₀ (K (F := F)).L (K (F := F)).lev 0 0 (fun c => iprop(∃ r, prngReg c r))
    (fun c => iprop(∃ r, prngReg c r)) launch1.toP rfl (fun c => (Region.body_obligation 𝒱₀ (V2r m) none c).loose) (fun _ _ => rfl)
    (fun _ => rfl) (fun _ w => match w with | ⟨0, _⟩ => rfl | ⟨1, _⟩ => rfl) (fun _ => .rfl) (fun _ => .rfl) (fun _ => 0) cut (fun _ => iprop(emp)) (V2 m) (V3 m)
    (fun _ w => match w with | ⟨0, _⟩ => rfl | ⟨1, _⟩ => rfl)
    (fun c w => match w with
      | ⟨0, _⟩ => ((Region.dat (Ix := HIx 1) (U := UU) (Lvl := ℕ) (V2r m) c).arrAt_in 0 rfl cfg1.N).trans (V3_v8 m c).symm
      | ⟨1, _⟩ => (Function.update_self (f := V2 m c) v9' (outA m c)).symm)

/-- The region's two arrays. -/
abbrev SR : Finset (DevRef τ sig) := Pipeline.arrRefs (τ := τ) (pcfgs (F := F) 0).spec

/-- They are among the buffers that the TensorCore holds. -/
theorem SR_sub : SR (F := F) ⊆ Pipeline.ucRefs τ sig := Pipeline.arrRefs_sub_ucRefs _ fun w => match w with | ⟨0, _⟩ => rfl | ⟨1, _⟩ => rfl

/-- The output is one of them. -/
theorem v9_SR : v9' ∈ SR (F := F) := Finset.mem_map.mpr ⟨main_v9, Finset.mem_image.mpr ⟨1, Finset.mem_univ _, rfl⟩, rfl⟩

/-- The rest is untouched. -/
theorem held_rest (d : Dev nD) : (StableHlo.held (SparseCore.T d) (Pipeline.ucRefs τ sig \ SR (F := F)) (V2 m d) : sProp 𝕄)
    = StableHlo.held (SparseCore.T d) (Pipeline.ucRefs τ sig \ SR (F := F)) (V3 m d) :=
  StableHlo.held_congr (SparseCore.T d) fun b hb => (Function.update_of_ne (fun e => (Finset.mem_sdiff.mp hb).2 (by rw [e]; exact v9_SR)) _ _).symm

/-- The transposing call, from all of the TensorCore's arrays to all of them. -/
theorem wp_region [∀ e, Nonempty (Elt F e)] (d : Dev nD) (Φ : PUnit → sProp 𝕄) :
    (iprop(boundary (SparseCore.T d) ∗ StableHlo.held (SparseCore.T d) (Pipeline.ucRefs τ sig) (V2 m d) ∗ (∃ r, prngReg d r)
        ∗ (∃ W, owes (SparseCore.T d) (0 : CellTallies nD τ sig (HIx 1)) W) ∗ levAts (K (F := F)).L (K (F := F)).lev
        ∗ Pipeline.cellsGhost (Pipeline.pin (pcfgs (F := F)) adm) EP 0 d ∗ Pipeline.toksInit (Pipeline.pin (pcfgs (F := F)) adm) EP 0 d
        ∗ ((boundary (SparseCore.T d) ∗ StableHlo.held (SparseCore.T d) (Pipeline.ucRefs τ sig) (V3 m d)
          ∗ ∃ W, owes (SparseCore.T d) (0 : CellTallies nD τ sig (HIx 1)) W) -∗ Φ ⟨⟩)) : sProp 𝕄)
      ⊢ wp frame (wpE ((K (F := F)).defs (D (F := F))) 𝒱 (SparseCore.T d) none) Set.univ (Prog.lift (.customCall (SparseCore.inner (Pipeline.entry 0)) ())) Φ := by
  rw [StableHlo.held_sub_split (SparseCore.T d) (SR_sub (F := F)) (V2 m d), StableHlo.held_sub_split (SparseCore.T d) (SR_sub (F := F)) (V3 m d), held_rest]
  have hl := (K (F := F)).wp_liftProg (N := 1) (Name := ℕ) (U := UU) (D (F := F)) 𝒱 (SparseCore.T d) Set.univ none
    (.op (.customCall (Pipeline.entry 0) ()) fun _ => .ret ⟨⟩) Φ
  rw [show (SparseCore.liftProg (.op (.customCall (Pipeline.entry 0) ()) fun _ => .ret ⟨⟩) : Prog (TpuEff nD τ sig (Elt F) (SparseCore.Sig (ΛP (F := F)) 1) .tc) PUnit)
    = Prog.lift (.customCall (SparseCore.inner (Pipeline.entry 0)) ()) from rfl] at hl
  refine BI.Entails.trans ?_ hl
  have hw := (Pipeline.RegionSeg.wp (pcfgs (F := F)) adm (RD m) none (launch1.toP.cellOf_inj adm) EP defs₀ 𝒱₀ (K (F := F)).L (K (F := F)).lev (segM m) d none
    (fun _ h => nomatch h) (fun _ => .ret ⟨⟩) Φ)
  refine BI.Entails.trans ?_ hw
  show _ ⊢ iprop((iprop(boundary (SparseCore.T d) ∗ iprop(StableHlo.held (SparseCore.T d) (SR (F := F)) (V3 m d) ∗ (∃ r, prngReg d r) ∗ emp ∗ ∃ W, owes (SparseCore.T d) (0 : CellTallies nD τ sig (HIx 1)) W)) -∗ _)
    ∗ _ ∗ iprop(StableHlo.held (SparseCore.T d) (SR (F := F)) (V2 m d) ∗ (∃ r, prngReg d r) ∗ emp ∗ ∃ W, owes (SparseCore.T d) (0 : CellTallies nD τ sig (HIx 1)) W) ∗ _)
  iintro ⟨Hb, ⟨Ha, Hr⟩, Hp, HO, Hl, Hg, Ht, Hk⟩
  isplitl [Hr Hk]
  · iintro ⟨Hb, Ha, -, -, HO⟩
    rw [wp_ret]
    imodintro
    iapply Hk
    isplitl [Hb]; · iexact Hb
    isplitl [Ha Hr]
    · isplitl [Ha]; · iexact Ha
      iexact Hr
    iexact HO
  isplitl [Hb]; · iexact Hb
  isplitl [Ha Hp HO]
  · isplitl [Ha]; · iexact Ha
    isplitl [Hp]; · iexact Hp
    isplitr; · iempintro
    iexact HO
  isplitl [Hl]; · iexact Hl
  isplitl [Hg]; · iexact Hg
  iexact Ht

end Cert.KernelIdeal.Gather

end
-- ==== Proof.Main.lean ====
/- The kernel program's whole run: @main from the launch to the return, beside the vector subcores' tasks, and what the arguments
   and the result hold at the end. -/
module

public import proofs.«01_k».proof.Proof.Host

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The ghost state at the launch: the handshakes' rounds and the pipeline's -/

/-- The transposing call's staging cells. -/
abbrev pins := Pipeline.pin (pcfgs (F := F)) adm

/-- They are distinct. -/
theorem pins_inj : Function.Injective (Pipeline.cellOf (nD := nD) (τ := τ) (pins (F := F))) := launch1.toP.cellOf_inj adm

/-- The ghost state at the launch: the handshakes' rounds, the pipeline's, and no transfer in flight. -/
def u₀ : UU := (initOf (K (F := F)).hsCells (K (F := F)).hsToks,
  (initOf (Pipeline.cells (pins (F := F)) pins_inj) (Pipeline.launchToks (pins (F := F)) pins_inj), 1))

/-- The TensorCore's share of it: its pipeline's. -/
abbrev G (d : Dev nD) : sProp 𝕄 := iprop(Pipeline.cellsGhost (pins (F := F)) EP 0 d ∗ Pipeline.toksInit (pins (F := F)) EP 0 d)

/-- The launch element pays for every share. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UP × Counters)) $$ Hu
  icases H with ⟨HH, HP⟩
  ihave HG := (show BI.own (embR ((initOf (Pipeline.cells (pins (F := F)) pins_inj) (Pipeline.launchToks (pins (F := F)) pins_inj), 1) : UP × Counters)) ⊢ _ from
    Pipeline.fund_ghost (pins (F := F)) EP pins_inj) $$ HP
  imod HG with ⟨Hc, Ht⟩
  imodintro
  isplitl [HH]; · iexact HH
  isplitl [Hc Ht]
  · rw [bigSep_sep']
    simp only [show ∀ Φ : Fin 1 → sProp 𝕄, bigSep Finset.univ Φ = Φ 0 from fun Φ => bigSep_univ_of_subsingleton (0 : Fin 1)]
    isplitl [Hc] <;> iassumption
  rw [show (bigSep Finset.univ fun thr : Thread nD τ => bigSep Finset.univ fun q : Fin 1 => (PM m).x q thr) = iprop(emp) from
    (bigSep_congr fun _ _ => bigSep_univ_of_subsingleton (0 : Fin 1)).trans (bigSep_emp_const _)]
  iempintro

/-! ## @main on the TensorCore -/

/-- At the launch the TensorCore's own buffers hold what memory does. -/
theorem unscoped_held (d : Dev nD) : (unscopedBufs d (fun b => m ((SparseCore.T d).loc b)) : sProp 𝕄) = StableHlo.held (SparseCore.T d) (Pipeline.ucRefs τ sig) (V0 m d) :=
  Pipeline.unscopedBufs_held d (V0 m d)

/-- What is kept to the end: the arguments and the result. -/
abbrev FIN (d : Dev nD) : sProp 𝕄 := StableHlo.held (SparseCore.T d) SF (V4 m d)

/-- With no call left the TensorCore owes nothing, and whatever it has waited for is below the last call's level. -/
theorem tcSt_last (d : Dev nD) : ((K (F := F)).tcSt EH d 1 : sProp 𝕄)
    ⊢ iprop((∃ W, owes (SparseCore.T d) (0 : CellTallies nD τ sig (HIx 1)) W)
      ∗ ((∃ W, owes (SparseCore.T d) (0 : CellTallies nD τ sig (HIx 1)) W) -∗ (K (F := F)).tcSt EH d 1)) := by
  unfold SparseCore.Cfg.tcSt
  rw [show (K (F := F)).Otc (N := 1) d 1 = 0 from by simp [SparseCore.Cfg.Otc]]
  iintro ⟨⟨%W, -, HO⟩, Hr⟩
  isplitl [HO]; · iexists _; iexact HO
  iintro ⟨%W', HO⟩
  isplitl [HO]
  · iexists W'
    isplitr
    · ipureintro
      exact fun p _ => match p.2 with
        | none => Nat.zero_le _
        | some q => ((K (F := F)).lev_some_le _ q).trans (by have := q.isLt; show 8 * q.val + 7 ≤ 8 * 1; omega)
    iexact HO
  iexact Hr

set_option maxRecDepth 16384 in
/-- @main on device `d`: from the launch's resources to the arguments and the result at `V4`. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, Hp⟩, Hg, Ht⟩
  iapply (StableHlo.wp_seq 𝒱 none Set.univ d (Pipeline.ucRefs τ sig) _ (ops (F := F)) ops_sub ops_fresh (V0 m d)) $$ [Hb Hheld]
  · isplitl [Hb] <;> iassumption
  iintro ⟨Hb, Hheld⟩
  ihave Hh := (Entails.of_eq (show (StableHlo.held (SparseCore.T d) (Pipeline.ucRefs τ sig) (StableHlo.after (ops (F := F)) (V0 m d)) : sProp 𝕄) = _ from take_call m d)) $$ Hheld
  icases Hh with ⟨Hc, Hr⟩
  rw [wp_bind]
  iapply ((K (F := F)).wp_run (D (F := F)) 𝒱 (EH := EH) (P := PM m) κ d 0)
  isplitr; · iexact Hctx
  isplitl [Hst]; · iexact Hst
  isplitl [Hc]; · iexact Hc
  iintro ⟨Hst, Hdn⟩
  ihave Hh := (Entails.of_eq (give_call m d)) $$ [Hdn Hr]
  · isplitl [Hdn] <;> iassumption
  ihave Hs := (show ((K (F := F)).tcSt EH d ((0 : Fin 1).val + 1) : sProp 𝕄) ⊢ _ from tcSt_last (F := F) d) $$ Hst
  icases Hs with ⟨HO, Hst⟩
  ihave Hl := ((K (F := F)).ctx_levAts (EH := EH) (P := PM m) κ) $$ Hctx
  rw [wp_bind]
  iapply (wp_region m d)
  isplitl [Hb]; · iexact Hb
  isplitl [Hh]; · iexact Hh
  isplitl [Hp]; · iexists _; iexact Hp
  isplitl [HO]; · iexact HO
  isplitl [Hl]; · iexact Hl
  isplitl [Hg]; · iexact Hg
  isplitl [Ht]; · iexact Ht
  iintro ⟨Hb, Hh, HO⟩
  ihave Hst' := Hst $$ HO
  iapply (StableHlo.wp_hlo_within 𝒱 (SparseCore.T d) none Set.univ (op := opLast (F := F)) (S := Pipeline.ucRefs τ sig)
    (Pipeline.sub_ucRefs _ (StableHlo.unary_bufs_sub ..)) (V := V3 m d)) $$ [Hb Hh]
  · isplitl [Hb] <;> iassumption
  iintro ⟨Hb, Hh⟩
  ihave Hf := (Entails.of_eq (StableHlo.held_sub_split (SparseCore.T d) SF_sub ((opLast (F := F)).result (V3 m d)))) $$ Hh
  icases Hf with ⟨Hf, -⟩
  rw [wp_ret]; imodintro
  isplitl [Hst']; · iexact Hst'
  isplitl [Hf]; · iexact Hf
  isplitl [Hb] <;> iassumption

/-! ## The program's run -/

/-- What the arguments and the result hold at the end. -/
def fq (d : Dev nD) (s' : Phys nD τ sig (Elt F)) : Prop :=
  s'.mem.mem ((SparseCore.T d).loc main_arg0) = V4 m d a0' ∧ s'.mem.mem ((SparseCore.T d).loc main_arg1) = V4 m d a1'
    ∧ s'.mem.mem ((SparseCore.T d).loc main_v10) = V4 m d v10'

set_option maxRecDepth 16384 in
/-- Who holds the arguments and the result at the end, and the machine's state, knows what they hold there. -/
theorem hfin (d : Dev nD) (s' : Phys nD τ sig (Elt F)) : iprop(FIN m d ∗ SI s') ⊢ (⌜fq m d s'⌝ : sProp 𝕄) := by
  unfold FIN
  rw [held_SF]
  iintro ⟨⟨H0, H1, H2⟩, HSI⟩
  ihave H := (persistent_entails_right (SI_pointsTo_agree (st := s') (ℓ := (SparseCore.T d).loc main_arg0) (I := Finset.univ) (q := fullShare) (f := V4 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V4 m d a1'))) $$ [HSI H1]
  · isplitl [HSI] <;> iassumption
  icases H with ⟨%h1, HSI, -⟩
  ihave H := (SI_pointsTo_agree (st := s') (ℓ := (SparseCore.T d).loc main_v10) (I := Finset.univ) (q := fullShare) (f := V4 m d v10')) $$ [HSI H2]
  · isplitl [HSI] <;> iassumption
  icases H with %h2
  ipureintro
  exact ⟨funext fun i => h0 i (Finset.mem_univ i), funext fun i => h1 i (Finset.mem_univ i), funext fun i => h2 i (Finset.mem_univ i)⟩

/-- What every run ends in: the arguments and the result at `V4`, every semaphore at zero. -/
def QC : PUnit × MemSt nD τ sig (Elt F) → Prop := fun r =>
  (∀ d : Dev nD, r.2.mem ((SparseCore.T d).loc main_arg0) = V4 m d a0' ∧ r.2.mem ((SparseCore.T d).loc main_arg1) = V4 m d a1'
    ∧ r.2.mem ((SparseCore.T d).loc main_v10) = V4 m d v10') ∧ r.2.sem = fun _ => 0

set_option maxRecDepth 16384 in
/-- Every run of the program, its gather's indices within the table, ends with the arguments and the result at `V4` and every
    semaphore at zero. -/
theorem run_main [∀ e, Nonempty (Elt F e)] (hX : ∀ d, InRange (idA m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (idA m) (tbA m) (old8 m) hX)
    (fun q _ => match q with | 0 => SparseCore.Cfg.VecSplit.of_plain (vecSplit (idA m) (tbA m) (old8 m)))
    m ρ main (fun d => G (F := F) d) (FIN m) (u₀ (F := F)) (sep_elim_left.trans (hu₀ m)) (hmain m ρ) (fq m) (hfin m) (QC m) (fun _ h hz => ⟨h, hz⟩)

end Cert.KernelIdeal.Gather

end
-- ==== Proof.HostVals.lean ====
/- What the host's operations make of the arguments: the index array and the table as the gather call finds them, element by
   element. -/
module

public import proofs.«01_k».proof.Proof.Main
public import Idealize.ShloMosaic.Lib.KernelVsHost

@[expose] public section

noncomputable section

namespace Cert.KernelIdeal.Gather

open Cert.KernelIdeal Cert.KernelIdeal.Gen
open Idealize.ShloMosaic Idealize.ShloMosaic.Tactic

variable {F : FTy → Type} [FloatOps F]

/-! ## The two arrays as functions of the arguments -/

/-- The indices, turned, padded and cut into columns of 128. -/
def idH (I : S1024x50.Idx → BitVec 32) : S8x56x128.Idx → BitVec 32 :=
  transpose S8x56x128 [1, 0, 2] (shapeCast S56x8x128 (pad S56x1024 ![0, 0] ![6, 0] ![0, 0] (transpose S50x1024 [1, 0] I transposes_S1024x50_S50x1024_1_0)
    (constantI S_ 32 0#32) pads_S50x1024_S56x1024_060_000 h_S_) shapeCasts_S56x1024_S56x8x128) transposes_S56x8x128_S8x56x128_1_0_2

/-- The table, padded and cut into four parts of two halves. -/
def tbH (W : S1000x1000.Idx → F .f32) : S4000x2x128.Idx → F .f32 :=
  shapeCast S4000x2x128 (transpose S4x1000x2x128 [1, 0, 2, 3] (shapeCast S1000x4x2x128 (pad S1000x1024 ![0, 0] ![0, 24] ![0, 0] W
    (sitofp .f32 (constantI S_ 32 0#32)) pads_S1000x1000_S1000x1024_000_0240 h_S_) shapeCasts_S1000x1024_S1000x4x2x128)
    transposes_S1000x4x2x128_S4x1000x2x128_1_0_2_3) shapeCasts_S4x1000x2x128_S4000x2x128

/-- Row `t` of column block `k` is position `t` of batch elements `128 k` to `128 k + 127`. -/
theorem idH_apply (I : S1024x50.Idx → BitVec 32) {k t b : ℕ} (hk : k < 8) (ht : t < 50) (hb : b < 128) :
    idH I (pos _ ![k, t, b]) = I (pos _ ![128 * k + b, t]) := by
  unfold idH
  rw [transpose_apply _ _ _ _ (pos S56x8x128 ![t, k, b]) (fun a => by
      match a with
      | 0 => show k % 8 = k % 8; rfl
      | 1 => show t % 56 = t % 56; rfl
      | 2 => show b % 128 = b % 128; rfl),
    shapeCast_apply _ _ _ (pos S56x1024 ![t, 128 * k + b]) (by
      rw [Shape.rowMajor_val_two, Shape.rowMajor_val_three]
      show (t % 56) * 1024 + (128 * k + b) % 1024 = ((t % 56) * 8 + k % 8) * 128 + b % 128
      omega),
    pad_apply_of_inside _ _ _ _ _ _ _ _ (pos S50x1024 ![t, 128 * k + b]) (fun a => by
      match a with
      | 0 => show t % 56 = 0 + t % 50 * (0 + 1); omega
      | 1 => show (128 * k + b) % 1024 = 0 + (128 * k + b) % 1024 * (0 + 1); omega),
    transpose_apply _ _ _ _ (pos S1024x50 ![128 * k + b, t]) (fun a => by
      match a with
      | 0 => rfl
      | 1 => rfl)]

/-- Row `r` of part `q`, half `h`, lane `l` is row `r`'s column `256 q + 128 h + l`, where the table has one. -/
theorem tbH_apply (W : S1000x1000.Idx → F .f32) {q r h l : ℕ} (hr : r < 1000) (hh : h < 2) (hl : l < 128) (hv : 256 * q + 128 * h + l < 1000) :
    tbH W (pos _ ![1000 * q + r, h, l]) = W (pos _ ![r, 256 * q + 128 * h + l]) := by
  unfold tbH
  rw [shapeCast_apply _ _ _ (pos S4x1000x2x128 ![q, r, h, l]) (by
      rw [Shape.rowMajor_val_four, Shape.rowMajor_val_three]
      show (((q % 4) * 1000 + r % 1000) * 2 + h % 2) * 128 + l % 128 = (((1000 * q + r) % 4000) * 2 + h % 2) * 128 + l % 128
      omega),
    transpose_apply _ _ _ _ (pos S1000x4x2x128 ![r, q, h, l]) (fun a => by
      match a with
      | 0 => rfl
      | 1 => rfl
      | 2 => rfl
      | 3 => rfl),
    shapeCast_apply _ _ _ (pos S1000x1024 ![r, 256 * q + 128 * h + l]) (by
      rw [Shape.rowMajor_val_two, Shape.rowMajor_val_four]
      show (r % 1000) * 1024 + (256 * q + 128 * h + l) % 1024 = (((r % 1000) * 4 + q % 4) * 2 + h % 2) * 128 + l % 128
      omega),
    pad_apply_of_inside _ _ _ _ _ _ _ _ (pos S1000x1000 ![r, 256 * q + 128 * h + l]) (fun a => by
      match a with
      | 0 => show r % 1000 = 0 + r % 1000 * (0 + 1); omega
      | 1 => show (256 * q + 128 * h + l) % 1024 = 0 + (256 * q + 128 * h + l) % 1000 * (0 + 1)
             rw [Nat.mod_eq_of_lt hv, Nat.mod_eq_of_lt (show 256 * q + 128 * h + l < 1024 by omega)]; omega)]

/-- Indices below a thousand are looked up within the table. -/
theorem inRange_idH {I : S1024x50.Idx → BitVec 32} (hI : ∀ y, (I y).toNat < 1000) : InRange (idH I) := fun k t b ht => by
  have e : (pos S8x56x128 ![k, t, b]) = pos _ ![k % 8, t, b % 128] := funext fun a => Fin.ext (by
    match a with
    | 0 => show k % 8 = k % 8 % 8; omega
    | 1 => rfl
    | 2 => show b % 128 = b % 128 % 128; omega)
  rw [e, idH_apply I (Nat.mod_lt _ (by decide)) ht (Nat.mod_lt _ (by decide))]
  exact hI _

/-! ## The run's -/

variable (m : (ℓ : Loc nD τ sig) → Buf (Elt F) ℓ)

/-- The index argument at the launch. -/
abbrev argI (d : Dev nD) : S1024x50.Idx → BitVec 32 := m (d, a0')
/-- The table argument at the launch. -/
abbrev argW (d : Dev nD) : S1000x1000.Idx → F .f32 := m (d, a1')

/-- The gather call finds the indices as `idH` arranges them. -/
theorem idA_eq (d : Dev nD) : idA m d = idH (argI m d) := by
  unfold idA V1
  simp only [ops, StableHlo.TRef.unary, StableHlo.TRef.binary, StableHlo.TRef.of, StableHlo.TRef.toBuf, StableHlo.TRef.ofBuf, cast_eq]
  after_results <;> rfl

/-- It finds the table as `tbH` arranges it. -/
theorem tbA_eq (d : Dev nD) : tbA m d = tbH (argW m d) := by
  unfold tbA V1
  simp only [ops, StableHlo.TRef.unary, StableHlo.TRef.binary, StableHlo.TRef.of, StableHlo.TRef.toBuf, StableHlo.TRef.ofBuf, cast_eq]
  after_results <;> rfl

/-- The host's operations leave the indices alone. -/
theorem V1_a0 (d : Dev nD) : V1 m d a0' = m (d, a0') := by
  unfold V1
  simp only [ops, StableHlo.TRef.unary, StableHlo.TRef.binary, StableHlo.TRef.of, StableHlo.TRef.toBuf, StableHlo.TRef.ofBuf, cast_eq]
  after_results <;> rfl

/-- They leave the table alone. -/
theorem V1_a1 (d : Dev nD) : V1 m d a1' = m (d, a1') := by
  unfold V1
  simp only [ops, StableHlo.TRef.unary, StableHlo.TRef.binary, StableHlo.TRef.of, StableHlo.TRef.toBuf, StableHlo.TRef.ofBuf, cast_eq]
  after_results <;> rfl

/-- The indices end as they were. -/
theorem V4_a0 (d : Dev nD) : V4 m d a0' = m (d, a0') := by
  unfold V4
  rw [(opLast (F := F)).result_of_not_mem _ (show a0' ∉ (opLast (F := F)).writes from fun h => absurd (Finset.mem_singleton.mp h) (by decide)), V3, Function.update_of_ne (by decide), V2, Function.update_of_ne (by decide), V1_a0]

/-- The table ends as it was. -/
theorem V4_a1 (d : Dev nD) : V4 m d a1' = m (d, a1') := by
  unfold V4
  rw [(opLast (F := F)).result_of_not_mem _ (show a1' ∉ (opLast (F := F)).writes from fun h => absurd (Finset.mem_singleton.mp h) (by decide)), V3, Function.update_of_ne (by decide), V2, Function.update_of_ne (by decide), V1_a1]

/-- The result is the transposing call's output with the batch brought to the front. -/
theorem V4_v10 (d : Dev nD) : V4 m d v10' = transpose S1024x50x1000 [2, 0, 1] (outA m d) transposes_S50x1000x1024_S1024x50x1000_2_0_1 := by
  unfold V4 opLast
  rw [StableHlo.unary_result, V3, Function.update_self]

end Cert.KernelIdeal.Gather

end
-- ==== Proof.OutVals.lean ====
/- What the transposing call leaves: every column of the result is the gathered rows' lanes, batch last. -/
module

public import proofs.«01_k».proof.Proof.HostVals
public import Idealize.ShloMosaic.Lib.Pipeline.Covers

@[expose] public section

noncomputable section

namespace Cert.KernelIdeal.Gather

open Cert.KernelIdeal Cert.KernelIdeal.Gen
open Idealize.ShloMosaic Idealize.ShloMosaic.Tactic
open Idealize.ShloMosaic.SparseCore.Cfg (HIx)

variable {F : FTy → Type} [FloatOps F]

/-! ## One block -/

/-- Column `v`, batch lane `b` of a block: part, half and lane of `v`, at row `b`. -/
theorem k1_pay1_apply (x : Vec F S1x1x4x2x128x128 .f32) (z : S1x1000x128.Idx) :
    k1_pay1 x z = x (pos _ ![0, 0, (z 1).val / 256, (z 1).val % 256 / 128, (z 2).val, (z 1).val % 128]) := by
  have h0 : (z 0).val < 1 := (z 0).isLt
  have h1 : (z 1).val < 1000 := (z 1).isLt
  have h2 : (z 2).val < 128 := (z 2).isLt
  unfold k1_pay1
  show shapeCast S1x1000x128 (extractStridedSlice S1000x128 ![0, 0] (shapeCast S1024x128 (transpose S4x2x128x128 [0, 1, 3, 2]
    (shapeCast S4x2x128x128 x shapeCasts_S1x1x4x2x128x128_S4x2x128x128) transposes_S4x2x128x128_p0_1_3_2_S4x2x128x128)
    shapeCasts_S4x2x128x128_S1024x128) slices_S1024x128_o0_0_S1000x128) shapeCasts_S1000x128_S1x1000x128 z = _
  rw [shapeCast_apply _ _ _ (pos S1000x128 ![(z 1).val, (z 2).val]) (by
      rw [Shape.rowMajor_val_two, Shape.rowMajor_val_three]
      show ((z 1).val % 1000) * 128 + (z 2).val % 128 = ((z 0).val * 1000 + (z 1).val) * 128 + (z 2).val
      omega),
    extractStridedSlice_apply _ _ _ _ (pos S1024x128 ![(z 1).val, (z 2).val]) (fun a => by
      match a with
      | 0 => show (z 1).val % 1024 = 0 + (z 1).val % 1000; omega
      | 1 => show (z 2).val % 128 = 0 + (z 2).val % 128; omega),
    shapeCast_apply _ _ _ (pos S4x2x128x128 ![(z 1).val / 256, (z 1).val % 256 / 128, (z 1).val % 128, (z 2).val]) (by
      rw [Shape.rowMajor_val_four, Shape.rowMajor_val_two]
      show ((((z 1).val / 256) % 4 * 2 + ((z 1).val % 256 / 128) % 2) * 128 + (z 1).val % 128 % 128) * 128 + (z 2).val % 128
        = ((z 1).val % 1024) * 128 + (z 2).val % 128
      omega),
    transpose_apply _ _ _ _ (pos S4x2x128x128 ![(z 1).val / 256, (z 1).val % 256 / 128, (z 2).val, (z 1).val % 128]) (fun a => by
      match a with
      | 0 => rfl
      | 1 => rfl
      | 2 => rfl
      | 3 => rfl),
    shapeCast_apply _ _ _ (pos S1x1x4x2x128x128 ![0, 0, (z 1).val / 256, (z 1).val % 256 / 128, (z 2).val, (z 1).val % 128]) (by
      rw [Shape.rowMajor_val_succ, Shape.rowMajor_val_succ, Shape.rowMajor_val_four, Shape.rowMajor_val_four]
      show 0 % 1 * _ + (0 % 1 * _ + _) = _
      rw [Nat.zero_mod, Nat.zero_mul, Nat.zero_mul, Nat.zero_add, Nat.zero_add]
      rfl)]

/-! ## The whole array -/

/-- The result column by column, from the array the gather call filled. -/
def outG (M : S50x8x4x2x128x128.Idx → F .f32) : S50x1000x1024.Idx → F .f32 := fun y =>
  M (pos _ ![(y 0).val, (y 2).val / 128, (y 1).val / 256, (y 1).val % 256 / 128, (y 2).val % 128, (y 1).val % 128])

/-- A grid point takes the block at its position and its column block. -/
theorem in_index (i : grid1.Coords) : cc1_transform_0 i = ![(i 0).val, (i 1).val, 0, 0, 0, 0] := by
  have h0 : (i 0).val < 50 := (i 0).isLt
  have h1 : (i 1).val < 8 := (i 1).isLt
  unfold cc1_transform_0
  simp only [BitVec.toNat_ofNat, Nat.mod_eq_of_lt (show (i 0).val < 2 ^ 32 by omega), Nat.mod_eq_of_lt (show (i 1).val < 2 ^ 32 by omega)]

/-- It fills the block at its position, all rows, of its column block. -/
theorem out_index (i : grid1.Coords) : cc1_transform_1 i = ![(i 0).val, 0, (i 1).val] := by
  have h0 : (i 0).val < 50 := (i 0).isLt
  have h1 : (i 1).val < 8 := (i 1).isLt
  unfold cc1_transform_1
  simp only [BitVec.toNat_ofNat, Nat.mod_eq_of_lt (show (i 0).val < 2 ^ 32 by omega), Nat.mod_eq_of_lt (show (i 1).val < 2 ^ 32 by omega)]

/-- Where a block's elements lie in the filled array, -/
theorem fill_emb (t : Fin cfg1.N) (j : S1x1x4x2x128x128.Idx) : ((cfg1.win 0).blk t).view.emb j
    = pos S50x8x4x2x128x128 ![(grid1.coords t 0).val, (grid1.coords t 1).val, (j 2).val, (j 3).val, (j 4).val, (j 5).val] := by
  have e := in_index (grid1.coords t)
  have h0 : (grid1.coords t 0).val < 50 := (grid1.coords t 0).isLt
  have h1 : (grid1.coords t 1).val < 8 := (grid1.coords t 1).isLt
  have j0 : (j 0).val < 1 := (j 0).isLt
  have j1 : (j 1).val < 1 := (j 1).isLt
  have j2 : (j 2).val < 4 := (j 2).isLt
  have j3 : (j 3).val < 2 := (j 3).isLt
  have j4 : (j 4).val < 128 := (j 4).isLt
  have j5 : (j 5).val < 128 := (j 5).isLt
  funext a; apply Fin.ext
  match a with
  | 0 => show cc1_transform_0 (grid1.coords t) 0 * 1 + 1 * (j 0).val = (grid1.coords t 0).val % 50
         rw [e]; show (grid1.coords t 0).val * 1 + 1 * (j 0).val = _; omega
  | 1 => show cc1_transform_0 (grid1.coords t) 1 * 1 + 1 * (j 1).val = (grid1.coords t 1).val % 8
         rw [e]; show (grid1.coords t 1).val * 1 + 1 * (j 1).val = _; omega
  | 2 => show cc1_transform_0 (grid1.coords t) 2 * 4 + 1 * (j 2).val = (j 2).val % 4
         rw [e]; show 0 * 4 + 1 * (j 2).val = _; omega
  | 3 => show cc1_transform_0 (grid1.coords t) 3 * 2 + 1 * (j 3).val = (j 3).val % 2
         rw [e]; show 0 * 2 + 1 * (j 3).val = _; omega
  | 4 => show cc1_transform_0 (grid1.coords t) 4 * 128 + 1 * (j 4).val = (j 4).val % 128
         rw [e]; show 0 * 128 + 1 * (j 4).val = _; omega
  | 5 => show cc1_transform_0 (grid1.coords t) 5 * 128 + 1 * (j 5).val = (j 5).val % 128
         rw [e]; show 0 * 128 + 1 * (j 5).val = _; omega

/-- and in the result. -/
theorem res_emb (t : Fin cfg1.N) (j : S1x1000x128.Idx) : ((cfg1.win 1).blk t).view.emb j
    = pos S50x1000x1024 ![(grid1.coords t 0).val, (j 1).val, 128 * (grid1.coords t 1).val + (j 2).val] := by
  have e := out_index (grid1.coords t)
  have h0 : (grid1.coords t 0).val < 50 := (grid1.coords t 0).isLt
  have h1 : (grid1.coords t 1).val < 8 := (grid1.coords t 1).isLt
  have j0 : (j 0).val < 1 := (j 0).isLt
  have j1 : (j 1).val < 1000 := (j 1).isLt
  have j2 : (j 2).val < 128 := (j 2).isLt
  funext a; apply Fin.ext
  match a with
  | 0 => show cc1_transform_1 (grid1.coords t) 0 * 1 + 1 * (j 0).val = (grid1.coords t 0).val % 50
         rw [e]; show (grid1.coords t 0).val * 1 + 1 * (j 0).val = _; omega
  | 1 => show cc1_transform_1 (grid1.coords t) 1 * 1000 + 1 * (j 1).val = (j 1).val % 1000
         rw [e]; show 0 * 1000 + 1 * (j 1).val = _; omega
  | 2 => show cc1_transform_1 (grid1.coords t) 2 * 128 + 1 * (j 2).val = (128 * (grid1.coords t 1).val + (j 2).val) % 1024
         rw [e]; show (grid1.coords t 1).val * 128 + 1 * (j 2).val = _; omega

variable (m : (ℓ : Loc nD τ sig) → Buf (Elt F) ℓ)

local notation "𝕕" => Region.dat (Ix := HIx 1) (U := UU) (Lvl := ℕ) (V2r m)

/-- What a grid point writes back is its block of the result. -/
theorem flushed_eq (d : Dev nD) (t : Fin cfg1.N) :
    (𝕕 d).flushed 1 t = ((cfg1.win 1).blk t).view.read (Elt F) (outG (midV (idA m d) (tbA m d))) := by
  show (cfg1.win 1).cut (grid1.coords t) ((𝕕 d).after 1 t) = _
  rw [Region.after_out]
  funext j
  have h0 : (grid1.coords t 0).val < 50 := (grid1.coords t 0).isLt
  have h1 : (grid1.coords t 1).val < 8 := (grid1.coords t 1).isLt
  have j1 : (j 1).val < 1000 := (j 1).isLt
  have j2 : (j 2).val < 128 := (j 2).isLt
  show k1_pay1 (Region.blockAt (V2r m) d t) j = outG (midV (idA m d) (tbA m d)) (((cfg1.win 1).blk t).view.emb j)
  rw [k1_pay1_apply, res_emb]
  unfold Region.blockAt
  show V2r m d main_v8 (((cfg1.win 0).blk t).view.emb _) = _
  rw [fill_emb]
  have e8 : V2r m d main_v8 = midV (idA m d) (tbA m d) := by unfold V2r V2; exact Function.update_self ..
  rw [e8]
  unfold outG
  refine congrArg _ (funext fun a => Fin.ext ?_)
  match a with
  | 0 => show (grid1.coords t 0).val % 50 = (grid1.coords t 0).val % 50 % 50; omega
  | 1 => show (grid1.coords t 1).val % 8 = (128 * (grid1.coords t 1).val + (j 2).val) % 1024 / 128 % 8; omega
  | 2 => show (j 1).val / 256 % 4 % 4 = (j 1).val % 1000 / 256 % 4; omega
  | 3 => show (j 1).val % 256 / 128 % 2 % 2 = (j 1).val % 1000 % 256 / 128 % 2; omega
  | 4 => show (j 2).val % 128 % 128 = (128 * (grid1.coords t 1).val + (j 2).val) % 1024 % 128 % 128; omega
  | 5 => show (j 1).val % 128 % 128 % 128 = (j 1).val % 1000 % 128 % 128; omega

/-- The blocks tile the result. -/
theorem out_cover (y : S50x1000x1024.Idx) : ∃ t : Fin cfg1.N, (cfg1.win 1).flush t = true ∧ y ∈ ((cfg1.win 1).blk t).view.set := by
  have y0 : (y 0).val < 50 := (y 0).isLt
  have y1 : (y 1).val < 1000 := (y 1).isLt
  have y2 : (y 2).val < 1024 := (y 2).isLt
  obtain ⟨t, ht⟩ := grid1.coords_surjective fun a => match a with
    | ⟨0, _⟩ => (⟨(y 0).val, y0⟩ : Fin 50)
    | ⟨1, _⟩ => (⟨(y 2).val / 128, by omega⟩ : Fin 8)
  refine ⟨t, flush1_1 t, ?_⟩
  have h := ((cfg1.win 1).blk t).view.emb_mem_set (pos S1x1000x128 ![0, (y 1).val, (y 2).val % 128])
  rw [res_emb, ht] at h
  have e : pos S50x1000x1024 ![(y 0).val, (y 1).val % 1000, 128 * ((y 2).val / 128) + (y 2).val % 128 % 128] = y := pos_eq fun a => by
    match a with
    | 0 => rfl
    | 1 => show (y 1).val % 1000 = (y 1).val; omega
    | 2 => show 128 * ((y 2).val / 128) + (y 2).val % 128 % 128 = (y 2).val; omega
  have h' : pos S50x1000x1024 ![(y 0).val, (y 1).val % 1000, 128 * ((y 2).val / 128) + (y 2).val % 128 % 128] ∈ ((cfg1.win 1).blk t).view.set := h
  rwa [e] at h'

/-- The transposing call's output, whole. -/
theorem outA_eq (d : Dev nD) : outA m d = outG (midV (idA m d) (tbA m d)) :=
  (𝕕 d).arrAt_eq_of_cover 1 (outG (midV (idA m d) (tbA m d))) (fun t _ => flushed_eq m d t) out_cover

/-! ## The result -/

/-- With every index below a thousand the program's result is the table's rows that the indices name. -/
theorem result_apply (d : Dev nD) (hI : ∀ y, (argI m d y).toNat < 1000) (y : S1024x50x1000.Idx) :
    (V4 m d v10' : S1024x50x1000.Idx → F .f32) y
      = argW m d (pos _ ![(argI m d (pos _ ![(y 0).val, (y 1).val])).toNat, (y 2).val]) := by
  have y0 : (y 0).val < 1024 := (y 0).isLt
  have y1 : (y 1).val < 50 := (y 1).isLt
  have y2 : (y 2).val < 1000 := (y 2).isLt
  rw [V4_v10, outA_eq, idA_eq, tbA_eq, transpose_apply _ _ _ _ (pos S50x1000x1024 ![(y 1).val, (y 2).val, (y 0).val]) (fun a => by
      match a with
      | 0 => show (y 0).val % 1024 = (y 0).val; omega
      | 1 => show (y 1).val % 50 = (y 1).val; omega
      | 2 => show (y 2).val % 1000 = (y 2).val; omega)]
  unfold outG midV
  have ei : pos S8x56x128 ![(y 0).val % 1024 / 128 % 8, (y 1).val % 50 % 50, (y 0).val % 1024 % 128 % 128]
      = pos S8x56x128 ![(y 0).val / 128, (y 1).val, (y 0).val % 128] := pos_congr fun a => by
    match a with
    | 0 => show (y 0).val % 1024 / 128 % 8 = (y 0).val / 128; omega
    | 1 => show (y 1).val % 50 % 50 = (y 1).val; omega
    | 2 => show (y 0).val % 1024 % 128 % 128 = (y 0).val % 128; omega
  have e : idH (argI m d) (pos S8x56x128 ![(y 0).val % 1024 / 128 % 8, (y 1).val % 50 % 50, (y 0).val % 1024 % 128 % 128])
      = argI m d (pos _ ![(y 0).val, (y 1).val]) := by
    rw [ei, idH_apply _ (by omega) y1 (Nat.mod_lt _ (by decide))]
    exact congrArg (argI m d) (pos_congr fun a => by
      match a with
      | 0 => show 128 * ((y 0).val / 128) + (y 0).val % 128 = (y 0).val; omega
      | 1 => rfl)
  show tbH (argW m d) (pos S4000x2x128 ![(idH (argI m d) (pos S8x56x128 ![(y 0).val % 1024 / 128 % 8, (y 1).val % 50 % 50, (y 0).val % 1024 % 128 % 128])
    + BitVec.ofNat 32 (1000 * ((y 2).val % 1000 / 256 % 4))).toNat, (y 2).val % 1000 % 256 / 128 % 2, (y 2).val % 1000 % 128 % 128]) = _
  rw [e]
  have hr := hI (pos _ ![(y 0).val, (y 1).val])
  have er : (argI m d (pos _ ![(y 0).val, (y 1).val]) + BitVec.ofNat 32 (1000 * ((y 2).val % 1000 / 256 % 4))).toNat
      = 1000 * ((y 2).val / 256) + (argI m d (pos _ ![(y 0).val, (y 1).val])).toNat := by
    rw [show (y 2).val % 1000 / 256 % 4 = (y 2).val / 256 by rw [Nat.mod_eq_of_lt y2]; omega, BitVec.toNat_add, BitVec.toNat_ofNat,
      Nat.mod_eq_of_lt (show 1000 * ((y 2).val / 256) < 2 ^ 32 by omega), Nat.mod_eq_of_lt (by omega)]; omega
  rw [er]
  have et : pos S4000x2x128 ![1000 * ((y 2).val / 256) + (argI m d (pos _ ![(y 0).val, (y 1).val])).toNat, (y 2).val % 1000 % 256 / 128 % 2, (y 2).val % 1000 % 128 % 128]
      = pos S4000x2x128 ![1000 * ((y 2).val / 256) + (argI m d (pos _ ![(y 0).val, (y 1).val])).toNat, (y 2).val % 256 / 128, (y 2).val % 128] := pos_congr fun a => by
    match a with
    | 0 => rfl
    | 1 => show (y 2).val % 1000 % 256 / 128 % 2 = (y 2).val % 256 / 128; omega
    | 2 => show (y 2).val % 1000 % 128 % 128 = (y 2).val % 128; omega
  rw [et, tbH_apply _ hr (by omega) (Nat.mod_lt _ (by decide)) (by omega)]
  exact congrArg (argW m d) (pos_congr fun a => by
    match a with
    | 0 => rfl
    | 1 => show 256 * ((y 2).val / 256) + 128 * ((y 2).val % 256 / 128) + (y 2).val % 128 = (y 2).val; omega)

end Cert.KernelIdeal.Gather

end
-- ==== Proof.RefVals.lean ====
/- What the reference computes when every index lies within the table, and that the claims' precondition says so. -/
module

public import proofs.«01_k».proof.Proof.Model
public import proofs.«01_k».proof.Proof.Gen.ReferenceIdeal.Run
public import proofs.«01_k».proof.Proof.Gen.Pre_pre
public import Idealize.ShloMosaic.Lib.KernelVsHost
public import Idealize.ShloMosaic.Lib.ReduceAll
public import Idealize.ShloMosaic.Lib.Affine

@[expose] public section

noncomputable section

namespace Cert.ReferenceIdeal.Take

open Cert.ReferenceIdeal Cert.ReferenceIdeal.Gen
open Idealize.ShloMosaic Idealize.SL.Sem
open Cert.KernelIdeal.Gather (pos pos_eq pos_congr)

variable {F : FTy → Type} [FloatOps F]

/-- A word below a thousand, read signed, is the same number. -/
theorem toInt_small {x : BitVec 32} (h : x.toNat < 1000) : x.toInt = x.toNat := by
  rw [BitVec.toInt_eq_toNat_cond, if_pos (by omega)]

/-- A word that is at least zero and below a thousand, read signed, is below a thousand read unsigned. -/
theorem toNat_small {x : BitVec 32} (h0 : 0 ≤ x.toInt) (h1 : x.toInt < 1000) : x.toNat < 1000 := by
  have hx := x.isLt
  rw [BitVec.toInt_eq_toNat_cond] at h0 h1
  split at h0 <;> omega

/-! ## The precondition -/

/-- A scalar has one index. -/
instance : Subsingleton Cert.Pre_pre.S_.Idx := ⟨fun _ _ => funext fun a => a.elim0⟩

/-- The precondition holds only if every index is below a thousand. -/
theorem small_of_pre (I : IVec S1024x50 32) (W : FVec F S1000x1000 .f32) (h : Cert.Pre_pre.fn I W = fun _ => 1#1) (y : S1024x50.Idx) :
    (I y).toNat < 1000 := by
  have e := Host.reduce_andi_all _ _ _ _ _ (congrFun h (fun a => a.elim0)) y
  obtain ⟨e0, e1⟩ := IntOp.andi_eq_one.1 e
  exact toNat_small (IntOp.cmpi_sge.1 e0) (IntOp.cmpi_slt.1 e1)

/-! ## The reference's value -/

/-- The row numbers the reference gathers: a negative index counts from the table's end. -/
def rows (I : IVec S1024x50 32) : IVec S1024x50x1 32 :=
  broadcastInDim S1024x50x1 ![0, 1] bcast_S1024x50_S1024x50x1_0_1 (select (cmpi .slt I (broadcastInDim S1024x50 ![] bcast_S_S1024x50 (constantI S_ 32 0#32)))
    (addi I (broadcastInDim S1024x50 ![] bcast_S_S1024x50 (constantI S_ 32 1000#32))) I)

/-- The bit that says a row number lies within the table. -/
def inside (R : IVec S1024x50x1 32) : IVec S1024x50x1 1 :=
  andi (cmpi .sge R (broadcastInDim S1024x50x1 ![] bcast_S_S1024x50x1 (constantI S_ 32 0#32)))
    (cmpi .sle R (broadcastInDim S1024x50x1 ![0, 1, 2] bcast_S1x1x1_S1024x50x1_0_1_2 (broadcastInDim S1x1x1 ![2] bcast_S1_S1x1x1_2 (constantI S1 32 999#32))))

/-- The reference's result: the gathered rows, and a filler where a row number lies outside. -/
def taken (I : IVec S1024x50 32) (W : FVec F S1000x1000 .f32) : FVec F S1024x50x1000 .f32 :=
  select (broadcastInDim S1024x50x1000 ![0, 1] bcast_S1024x50_S1024x50x1000_0_1
      (Host.reduce IntOp.andi (inside (rows I)) (constantI S_ 1 1#1) reducesTo_S1024x50x1_S1024x50_d2 h_S_))
    (Host.gather gather_S1000x1000_S1024x50x1_S1024x50x1000_2_0_n_n_0_2_11000 W (rows I))
    (broadcastInDim S1024x50x1000 ![] bcast_S_S1024x50x1000 (constant S_ .f32 0x7FC00000#32))

/-- An index within the table is its own row number. -/
theorem rows_apply (I : IVec S1024x50 32) (hI : ∀ y, (I y).toNat < 1000) (z : S1024x50x1.Idx) :
    rows I z = I (pos _ ![(z 0).val, (z 1).val]) := by
  unfold rows
  rw [broadcastInDim_apply _ _ _ _ (pos S1024x50 ![(z 0).val, (z 1).val]) (fun a => by
    match a with
    | 0 => exact Nat.mod_eq_of_lt (z 0).isLt
    | 1 => exact Nat.mod_eq_of_lt (z 1).isLt)]
  have hn : ¬ IntOp.cmpi .slt (I (pos S1024x50 ![(z 0).val, (z 1).val])) 0#32 = 1#1 := fun h => by
    have h' := IntOp.cmpi_slt.1 h
    rw [toInt_small (hI _)] at h'
    exact absurd h' (by simp)
  exact if_neg hn

/-- Such row numbers lie within the table. -/
theorem inside_apply (I : IVec S1024x50 32) (hI : ∀ y, (I y).toNat < 1000) (z : S1024x50x1.Idx) : inside (rows I) z = 1#1 := by
  have h := hI (pos _ ![(z 0).val, (z 1).val])
  refine IntOp.andi_eq_one.2 ⟨?_, ?_⟩
  · refine IntOp.cmpi_sge.2 ?_
    rw [rows_apply I hI, toInt_small h]
    exact Int.natCast_nonneg _
  · refine IntOp.cmpi_sle.2 ?_
    rw [rows_apply I hI, toInt_small h]
    show ((I _).toNat : Int) ≤ 999
    omega

/-- The gather read at an element: the column of the row whose number stands at the element's first two coordinates. -/
theorem gather_row (W : FVec F S1000x1000 .f32) (R : IVec S1024x50x1 32) (y : S1024x50x1000.Idx) :
    Host.gather gather_S1000x1000_S1024x50x1_S1024x50x1000_2_0_n_n_0_2_11000 W R y
      = W (pos _ ![min (R (pos _ ![(y 0).val, (y 1).val, 0])).toInt.toNat 999, (y 2).val]) := by
  refine congrArg W (pos_eq fun a => ?_).symm
  set G := gather_S1000x1000_S1024x50x1_S1024x50x1000_2_0_n_n_0_2_11000
  match a with
  | 0 =>
    show _ = G.start y R 0 + G.batchCoord y 0 + G.offCoord y 0
    rw [G.batchCoord_eq_zero _ _ List.not_mem_nil, G.offCoord_eq_zero _ _ fun h => ((G.mem_sKept _).1 h).1 (List.mem_singleton.2 rfl)]
    unfold GatherDims.start
    have m0 : (0 : Fin S1000x1000.rank) ∈ G.startIndexMap := List.mem_singleton.2 rfl
    rw [dif_pos m0]
    have e : G.siIdx y ⟨G.startIndexMap.idxOf 0, List.idxOf_lt_length_iff.2 (List.mem_singleton.2 rfl)⟩
        = pos S1024x50x1 ![(y 0).val, (y 1).val, 0] := (pos_eq fun b => by
      match b with
      | 0 => rfl
      | 1 => rfl
      | 2 => rfl).symm
    rw [e]
    rfl
  | 1 =>
    show _ = G.start y R 1 + G.batchCoord y 1 + G.offCoord y 1
    rw [G.batchCoord_eq_zero _ _ List.not_mem_nil]
    unfold GatherDims.start
    have m1 : (1 : Fin S1000x1000.rank) ∉ G.startIndexMap := fun h => absurd (List.mem_singleton.1 h) (by decide)
    rw [dif_neg m1]
    show (y 2).val = 0 + 0 + (y 2).val
    omega

/-- A selection is its first array where its bits are one. -/
theorem select_one {s : Shape} {α : Type} {c : IVec s 1} {a b : s.Idx → α} {y : s.Idx} (h : c y = 1#1) : select c a b y = a y := if_pos h

/-- With every index below a thousand the reference's result is the table's rows that the indices name. -/
theorem taken_apply (I : IVec S1024x50 32) (W : FVec F S1000x1000 .f32) (hI : ∀ y, (I y).toNat < 1000) (y : S1024x50x1000.Idx) :
    taken I W y = W (pos _ ![(I (pos _ ![(y 0).val, (y 1).val])).toNat, (y 2).val]) := by
  have hm : ∀ j, Host.reduce IntOp.andi (inside (rows I)) (constantI S_ 1 1#1) reducesTo_S1024x50x1_S1024x50_d2 h_S_ j = 1#1 := fun j =>
    Host.reduce_andi_one _ _ _ _ _ rfl (inside_apply I hI)
  have hb : broadcastInDim S1024x50x1000 ![0, 1] bcast_S1024x50_S1024x50x1000_0_1
      (Host.reduce IntOp.andi (inside (rows I)) (constantI S_ 1 1#1) reducesTo_S1024x50x1_S1024x50_d2 h_S_) y = 1#1 := hm _
  unfold taken
  rw [select_one hb]
  have y0 : (y 0).val < 1024 := (y 0).isLt
  have y1 : (y 1).val < 50 := (y 1).isLt
  rw [gather_row, rows_apply I hI]
  have e : pos S1024x50 ![((pos S1024x50x1 ![(y 0).val, (y 1).val, 0]) 0).val, ((pos S1024x50x1 ![(y 0).val, (y 1).val, 0]) 1).val]
      = pos S1024x50 ![(y 0).val, (y 1).val] := pos_congr fun a => by
    match a with
    | 0 => exact Nat.mod_eq_of_lt y0
    | 1 => exact Nat.mod_eq_of_lt y1
  rw [e]
  have h := hI (pos _ ![(y 0).val, (y 1).val])
  rw [toInt_small h, Int.toNat_natCast, Nat.min_eq_left (by omega)]

/-! ## The reference's run -/

/-- Every run of the reference ends with its result at `taken`, its arguments as they were and every semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0)
          = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨h, sem_eq_zero_of_no_sems (by decide) r.2⟩) (Value.run m ρ)

end Cert.ReferenceIdeal.Take

end
-- ==== Proof.lean ====
module

public import proofs.«01_k».proof.Proof.OutVals
public import proofs.«01_k».proof.Proof.RefVals
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_pre
public import Idealize.ShloMosaic.Adequacy
public import Idealize.ShloMosaic.Init

@[expose] public section

noncomputable section

namespace Cert.Proof

open Idealize.ShloMosaic Idealize.SL.Sem
open Cert.KernelIdeal.Gather (idA idA_eq argI argW InRange inRange_idH V4_a0 V4_a1 run_main result_apply)
open Cert.ReferenceIdeal.Take (small_of_pre taken taken_apply)

/-- Where the precondition holds of the kernel's arguments, the indices its gather reads lie within the table. -/
theorem inRange_of_pre {F : FTy → Type} [FloatOps F] (m : (ℓ : Loc Cert.KernelIdeal.nD Cert.KernelIdeal.τ Cert.KernelIdeal.sig) → Buf (Elt F) ℓ)
    (h : ∀ c, Cert.Pre_pre.fn (F := F) (argI m c) (argW m c) = fun _ => 1#1) (d : Dev Cert.KernelIdeal.nD) : InRange (idA m d) := by
  rw [idA_eq]
  exact inRange_idH fun y => small_of_pre _ _ (h d) y

/-- The program, read at any values, runs, keeps its arguments and ends with every semaphore at zero. -/
theorem run_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ c, Cert.Pre_pre.fn (F := F) (argI m c) (argW m c) = fun _ => 1#1) :
    θ_run (Cert.KernelIdeal.defs (F := F)) (Cert.KernelIdeal.threads (F := F)) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0 :=
  (θ_run Cert.KernelIdeal.defs _ _).mono (fun _ q => ⟨fun c => ⟨(q.1 c).1.trans (V4_a0 m c), (q.1 c).2.1.trans (V4_a1 m c)⟩, q.2⟩)
    (run_main m ρ (inRange_of_pre m h))

/-- The bodies that the two printings of the kernel run are the same, on each processor and at each label. -/
theorem bodies_eq {F : FTy → Type} [FloatOps F] : Cert.Kernel.defs₀ (F := F) = Cert.KernelIdeal.defs₀ (F := F) := by
  funext p l x
  match p, l, x with
  | .tc, ⟨0, _⟩, _ => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

/-- So the two printings call the same bodies. -/
theorem defs_eq {F : FTy → Type} [FloatOps F] : Cert.Kernel.defs (F := F) = Cert.KernelIdeal.defs (F := F) :=
  congrArg (fun D => Cert.KernelIdeal.sc.defs (Pipeline.defs Cert.KernelIdeal.pcfgs D)) (bodies_eq (F := F))

/-- The kernel, read at machine words, runs, keeps its arguments and ends with every semaphore at zero. -/
theorem frame_kernel : Cert.quiescent_Kernel := fun m ρ h => by
  rw [defs_eq]
  exact run_frame (F := Bits) m ρ h

/-- The kernel, read at ideal values, runs, keeps its arguments and ends with every semaphore at zero. -/
theorem frame_kernelIdeal : Cert.quiescent_KernelIdeal := fun m ρ h => run_frame (F := Ideal) m ρ h

/-- The reference runs, keeps its arguments and has no semaphore that could end above zero. -/
theorem frame_reference : Cert.quiescent_ReferenceIdeal := fun m ρ _ =>
  (θ_run Cert.ReferenceIdeal.defs _ _).mono (fun _ q => ⟨fun c => (q.1 c).2, q.2⟩) (Cert.ReferenceIdeal.Take.run (F := Ideal) m ρ)

/-- The same of the arguments that the precondition allows. -/
theorem frame_reference_pre : Cert.quiescent_ReferenceIdeal_pre_pre := fun m ρ _ => frame_reference m ρ trivial

/-- The kernel's result and the reference's are one array: at each element both hold the table's row that the index names. -/
theorem algebraic : Cert.algebraic_KernelIdeal_ReferenceIdeal := by
  intro m ρ m' ρ' h hagree
  refine ⟨fun c => taken (F := Ideal) (argI m c) (argW m c), ?_, ?_⟩
  · refine (θ_run Cert.KernelIdeal.defs _ _).mono (fun _ q c => ⟨(q.1 c).2.2.trans (funext fun y => ?_), (q.1 c).1.trans (V4_a0 m c), (q.1 c).2.1.trans (V4_a1 m c)⟩)
      (run_main (F := Ideal) m ρ (inRange_of_pre m h))
    have hI : ∀ z, (argI m c z).toNat < 1000 := small_of_pre _ _ (h c)
    exact (result_apply m c hI y).trans (taken_apply _ _ hI y).symm
  · refine (θ_run Cert.ReferenceIdeal.defs _ _).mono (fun _ q c => ⟨(q.1 c).1.trans ?_, (q.1 c).2⟩) (Cert.ReferenceIdeal.Take.run (F := Ideal) m' ρ')
    rw [(hagree c).1, (hagree c).2]

/-- `Cert.Claim` (Defs.lean). -/
theorem claim : Cert.Claim :=
  ⟨Cert.Kernel.Gen.facts, Cert.KernelIdeal.Gen.facts, Cert.ReferenceIdeal.Gen.facts, Cert.Pre_pre.Gen.facts,
    frame_kernel, frame_kernelIdeal, frame_reference, frame_reference_pre, trivial, algebraic⟩

end Cert.Proof

end
